-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_finite_and_enough_neighbors [hPre_norms_finite_and_enough_neighbors : Cert.Pre_norms_finite_and_enough_neighbors.Facts] (m : (ℓ : Loc Cert.KernelIdeal.nD Cert.KernelIdeal.τ Cert.KernelIdeal.sig) → Buf (Elt Ideal) ℓ) : Prop :=
  ∀ c : Dev Cert.KernelIdeal.nD,
    (Cert.Pre_norms_finite_and_enough_neighbors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_finite_and_enough_neighbors [hPre_norms_finite_and_enough_neighbors : Cert.Pre_norms_finite_and_enough_neighbors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_finite_and_enough_neighbors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_norms_finite_and_enough_neighbors [hKernelIdeal : Cert.KernelIdeal.Facts] [hPre_norms_finite_and_enough_neighbors : Cert.Pre_norms_finite_and_enough_neighbors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_finite_and_enough_neighbors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_norms_finite_and_enough_neighbors [hReferenceIdeal : Cert.ReferenceIdeal.Facts] [hPre_norms_finite_and_enough_neighbors : Cert.Pre_norms_finite_and_enough_neighbors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_finite_and_enough_neighbors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_norms_finite_and_enough_neighbors [hKernelIdeal : Cert.KernelIdeal.Facts] [hReferenceIdeal : Cert.ReferenceIdeal.Facts] [hPre_norms_finite_and_enough_neighbors : Cert.Pre_norms_finite_and_enough_neighbors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_finite_and_enough_neighbors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_norms_finite_and_enough_neighbors : Cert.Pre_norms_finite_and_enough_neighbors.Facts),
    quiescent_Kernel (hKernel := hKernel)
    ∧ quiescent_KernelIdeal (hKernelIdeal := hKernelIdeal)
    ∧ quiescent_KernelIdeal_pre_norms_finite_and_enough_neighbors (hKernelIdeal := hKernelIdeal) (hPre_norms_finite_and_enough_neighbors := hPre_norms_finite_and_enough_neighbors)
    ∧ quiescent_ReferenceIdeal (hReferenceIdeal := hReferenceIdeal)
    ∧ quiescent_ReferenceIdeal_pre_norms_finite_and_enough_neighbors (hReferenceIdeal := hReferenceIdeal) (hPre_norms_finite_and_enough_neighbors := hPre_norms_finite_and_enough_neighbors)
    ∧ preserves_Kernel_KernelIdeal
    ∧ algebraic_KernelIdeal_ReferenceIdeal_pre_norms_finite_and_enough_neighbors (hKernelIdeal := hKernelIdeal) (hReferenceIdeal := hReferenceIdeal) (hPre_norms_finite_and_enough_neighbors := hPre_norms_finite_and_enough_neighbors)
-- ==== Pre_norms_finite_and_enough_neighbors.lean ====
abbrev S4096x4096 : Shape := ⟨2, ![4096, 4096]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x4096 : Shape := ⟨2, ![512, 4096]⟩
abbrev S4096x32 : Shape := ⟨2, ![4096, 32]⟩

class Facts : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  sliceFits_S4096x4096_S4096x32 : S4096x4096.Slices (fun _ => 0) S4096x32
  bcast_S_S4096x32 : S_.BroadcastsInDim S4096x32 (![] : Fin 0 → Fin S4096x32.rank)
  bcast_S4096x1_S4096x32_0_1 : S4096x1.BroadcastsInDim S4096x32 (![0, 1] : Fin 2 → Fin S4096x32.rank)
  dot_S4096x512_S512x4096_S4096x4096_1_0_0_1_n_n_wf : DotDims.WF S4096x512 S512x4096 S4096x4096 [1] [0] [0] [1] [] []

variable [Facts]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def fn_part1 {F : FTy → Type} [FloatOps F] (main_v3 : FVec F S4096x1 .f32) (main_v12 : IVec S4096x4096 1) (main_v18 : FVec F S4096x4096 .f32) : IVec S4096x32 1 :=
  let main_cst_4 : FVec F S_ .f32 := constant S_ .f32 0xFF800000#32
  let main_v19 : FVec F S4096x4096 .f32 := broadcastInDim S4096x4096 ![] bcast_S_S4096x4096 main_cst_4
  let main_v20 : FVec F S4096x4096 .f32 := select main_v12 main_v18 main_v19
  let main_cst_5 : FVec F S_ .f32 := constant S_ .f32 0x7F800000#32
  let main_v21 : FVec F S4096x1 .f32 := broadcastInDim S4096x1 ![] bcast_S_S4096x1 main_cst_5
  let main_v22 : IVec S4096x1 1 := cmpf .olt main_v3 main_v21
  let main_values : FVec F S4096x32 .f32 := (fun x => (Host.topK S4096x32 1 (FloatOps.cmpfTotal .gt) x sliceFits_S4096x4096_S4096x32).1) main_v20
  let main_indices : IVec S4096x32 32 := (fun x => (Host.topK S4096x32 1 (FloatOps.cmpfTotal .gt) x sliceFits_S4096x4096_S4096x32).2) main_v20
  let main_cst_6 : FVec F S_ .f32 := constant S_ .f32 0xFF800000#32
  let main_v23 : FVec F S4096x32 .f32 := broadcastInDim S4096x32 ![] bcast_S_S4096x32 main_cst_6
  let main_v24 : IVec S4096x32 1 := cmpf .ogt main_values main_v23
  let main_v25 : IVec S4096x32 1 := broadcastInDim S4096x32 ![0, 1] bcast_S4096x1_S4096x32_0_1 main_v22
  let main_v26 : IVec S4096x32 1 := andi main_v25 main_v24
  main_v26

def fn {F : FTy → Type} [FloatOps F] (main_arg0 : FVec F S4096x4096 .f32) (main_arg1 : FVec F S4096x512 .f32) (main_arg2 : IVec S4096 32) : IVec S4096x32 1 :=
  let main_v0 : FVec F S4096x512 .f32 := mulf main_arg1 main_arg1
  let main_cst : FVec F S_ .f32 := constant S_ .f32 0x00000000#32
  let main_v1 : FVec F S4096 .f32 := (fun x v => Host.reduceAdd x v reducesTo_S4096x512_S4096_d1 h_S_) main_v0 main_cst
  let main_v2 : FVec F S4096x1 .f32 := broadcastInDim S4096x1 ![0] bcast_S4096_S4096x1_0 main_v1
  let main_v3 : FVec F S4096x1 .f32 := Host.sqrt main_v2
  let main_cst_0 : FVec F S_ .f32 := constant S_ .f32 0x2B8CBCCC#32
  let main_v4 : FVec F S4096x1 .f32 := broadcastInDim S4096x1 ![] bcast_S_S4096x1 main_cst_0
  let main_v5 : FVec F S4096x1 .f32 := maximumf main_v4 main_v3
  let main_v6 : FVec F S4096x512 .f32 := broadcastInDim S4096x512 ![0, 1] bcast_S4096x1_S4096x512_0_1 main_v5
  let main_v7 : FVec F S4096x512 .f32 := Host.divf main_arg1 main_v6
  let main_v8 : FVec F S512x4096 .f32 := (transpose S512x4096 [1, 0] · transposes_S4096x512_S512x4096_1_0) main_v7
  let main_v9 : FVec F S4096x4096 .f32 := (fun l r => Host.dotGeneral dot_S4096x512_S512x4096_S4096x4096_1_0_0_1_n_n none l r) main_v7 main_v8
  let main_v10 : FVec F S4096x4096 .f32 := mulf main_v9 main_arg0
  let main_cst_1 : FVec F S_ .f32 := constant S_ .f32 0x00000000#32
  let main_v11 : FVec F S4096x4096 .f32 := broadcastInDim S4096x4096 ![] bcast_S_S4096x4096 main_cst_1
  let main_v12 : IVec S4096x4096 1 := cmpf .ogt main_arg0 main_v11
  let main_cst_2 : FVec F S_ .f32 := constant S_ .f32 0x00000000#32
  let main_v13 : FVec F S4096x4096 .f32 := broadcastInDim S4096x4096 ![] bcast_S_S4096x4096 main_cst_2
  let main_v14 : FVec F S4096x4096 .f32 := select main_v12 main_v10 main_v13
  let main_cst_3 : FVec F S_ .f32 := constant S_ .f32 0x00000000#32
  let main_v15 : FVec F S4096 .f32 := (fun x v => Host.reduceAdd x v reducesTo_S4096x4096_S4096_d1 h_S_) main_v14 main_cst_3
  let main_v16 : FVec F S4096x1 .f32 := broadcastInDim S4096x1 ![0] bcast_S4096_S4096x1_0 main_v15
  let main_v17 : FVec F S4096x4096 .f32 := broadcastInDim S4096x4096 ![0, 1] bcast_S4096x1_S4096x4096_0_1 main_v16
  let main_v18 : FVec F S4096x4096 .f32 := Host.divf main_v14 main_v17
  fn_part1 (F := F) main_v3 main_v12 main_v18
-- ==== Kernel.lean ====
abbrev S4096x4096 : Shape := ⟨2, ![4096, 4096]⟩
abbrev S4096x512 : Shape := ⟨2, ![4096, 512]⟩
abbrev S4096 : Shape := ⟨1, ![4096]⟩
abbrev S512x512 : Shape := ⟨2, ![512, 512]⟩
abbrev S512x128 : Shape := ⟨2, ![512, 128]⟩
abbrev S512x1 : Shape := ⟨2, ![512, 1]⟩
abbrev S4096x32 : Shape := ⟨2, ![4096, 32]⟩
abbrev S512x4096 : Shape := ⟨2, ![512, 4096]⟩
abbrev S512x32 : Shape := ⟨2, ![512, 32]⟩
abbrev S512 : Shape := ⟨1, ![512]⟩

abbrev nBuf : Space → Nat
  | .hbm => 6
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S4096x32, .f32⟩
  | .hbm, ⟨5, _⟩ => ⟨S4096x32, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4096x512, .f32⟩
  | .local _ .vmem, ⟨7, _⟩ => ⟨S512x4096, .f32⟩
  | .local _ .vmem, ⟨8, _⟩ => ⟨S512x4096, .f32⟩
  | .local _ .vmem, ⟨9, _⟩ => ⟨S512x32, .f32⟩
  | .local _ .vmem, ⟨10, _⟩ => ⟨S512x32, .f32⟩
  | .local _ .vmem, ⟨11, _⟩ => ⟨S512x32, .i32⟩
  | .local _ .vmem, ⟨12, _⟩ => ⟨S512x32, .i32⟩
  | .local _ .vmem, ⟨13, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

@[reducible] def k1_t1_loop : Scf.Loop 32 :=
  let c0_i32_12 : BitVec 32 := 0#32
  let c32_i32 : BitVec 32 := 32#32
  let v26 : BitVec 32 := Scalar.addi c0_i32_12 c32_i32
  let c1_i32 : BitVec 32 := 1#32
  ⟨c0_i32_12, v26, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x32 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4096x4096 : Shape := ⟨2, ![4096, 4096]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x4096 : Shape := ⟨2, ![512, 4096]⟩
abbrev S4096x32 : Shape := ⟨2, ![4096, 32]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S512x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x32, .f32⟩
  | .hbm, ⟨34, _⟩ => ⟨S4096x32, .i32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_call2_v0 : Ref sig .tc := ⟨.hbm, 21, rfl⟩
abbrev main_call2_v1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_call3_v0 : Ref sig .tc := ⟨.hbm, 30, rfl⟩
abbrev main_call3_v1 : Ref sig .tc := ⟨.hbm, 31, rfl⟩
abbrev main_v14 : Ref sig .tc := ⟨.hbm, 32, rfl⟩
abbrev main_values : Ref sig .tc := ⟨.hbm, 33, rfl⟩
abbrev main_indices : Ref sig .tc := ⟨.hbm, 34, rfl⟩

abbrev nD : Nat := 1
abbrev τ : Topo := Topo.v7x

variable {F : FTy → Type} [FloatOps F]
-- ==== Proof.Launched.lean ====
module

public import proofs.«01_k».proof.Proof.Gen.KernelIdeal.Frame

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Launched

open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- The kernel's run from any memory with zero counters: the two result arrays end at what the second pipeline's
    write-backs leave, and the argument arrays end as they were. The launch is set up as in the generated frame. -/
theorem run : θ_run defs (onTc (τ := τ) (main (F := F))) ⟨m, fun _ => 0, ρ⟩ (fun r => ∀ c : Dev nD,
      r.2.mem ((c.tc : Thread nD τ).loc main_v1_0) = (dat1 (V1 m ρ) c).arrAt 3 cfg1.N
      ∧ r.2.mem ((c.tc : Thread nD τ).loc main_v1_1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1_0 (by decide))).trans (W2_arr m ρ c 3),
       (h c _ (mem_uc main_v1_1 (by decide))).trans (W2_arr m ρ c 4),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Launched

end
-- ==== Proof.Rounds.lean ====
module

public import proofs.«01_k».proof.Proof.Gen.KernelIdeal.Frame
public import Idealize.ShloMosaic.Lib.Pipeline.Value

@[expose] public section

noncomputable section

open Idealize.ShloMosaic Idealize.ShloMosaic.TcCoe Idealize.SL.Sem

namespace Cert.KernelIdeal.Rounds

open Cert.KernelIdeal Cert.KernelIdeal.Gen

variable {F : FTy → Type} [FloatOps F]

theorem hz : (![0, 0] : Fin 2 → Nat) = fun _ => 0 := funext fun a => by fin_cases a <;> rfl

/-- What one round carries on: the two payloads at the candidates it reads. -/
theorem trip_result (𝒱 : Variants) (c : Dev nD) (bd : Option 𝒱.V) (i : grid1.Coords) (a1 : Memref sig .tc .vmem S512x512 .f32) (h1 : a1.IsWhole)
    (a2 : Memref sig .tc .vmem S4096x512 .f32) (h2 : a2.IsWhole) (a3 : Memref sig .tc .vmem S512x4096 .f32) (h3 : a3.IsWhole)
    (a4 : Memref sig .tc .vmem S512x32 .f32) (h4 : a4.IsWhole) (a5 : Memref sig .tc .vmem S512x32 .i32) (h5 : a5.IsWhole)
    (a6 : Memref sig .tc .vmem S512x4096 .f32) (h6 : a6.IsWhole) (k : Fin k1_t1_loop.trips)
    (acc : FVec F S512x32 .f32 × IVec S512x32 32) (f : BufTy.Contents (Elt F) a6.view.ty) :
    tripR_k1_t1 𝒱 c bd i a1 h1 a2 h2 a3 h3 a4 h4 a5 h5 a6 h6 k acc f
      = (k1_pay7 k acc.1 (a6.view.read (Elt F) f), k1_pay8 k acc.2 (a6.view.read (Elt F) f)) := by
  unfold tripR_k1_t1 trip_k1_t1
  dsimp only
  simp only [View.readAt_eq_ld, View.ld_unit_zero (S := S512x4096) hz]

/-- What one round writes to the scratch buffer. -/
theorem trip_pieces (𝒱 : Variants) (c : Dev nD) (bd : Option 𝒱.V) (i : grid1.Coords) (a1 : Memref sig .tc .vmem S512x512 .f32) (h1 : a1.IsWhole)
    (a2 : Memref sig .tc .vmem S4096x512 .f32) (h2 : a2.IsWhole) (a3 : Memref sig .tc .vmem S512x4096 .f32) (h3 : a3.IsWhole)
    (a4 : Memref sig .tc .vmem S512x32 .f32) (h4 : a4.IsWhole) (a5 : Memref sig .tc .vmem S512x32 .i32) (h5 : a5.IsWhole)
    (a6 : Memref sig .tc .vmem S512x4096 .f32) (h6 : a6.IsWhole) (k : Fin k1_t1_loop.trips)
    (acc : FVec F S512x32 .f32 × IVec S512x32 32) (f : BufTy.Contents (Elt F) a6.view.ty) :
    tripL_k1_t1 𝒱 c bd i a1 h1 a2 h2 a3 h3 a4 h4 a5 h5 a6 h6 k acc f
      = [⟨Rect.unit (s := S512x4096) ![0, 0] S512x4096.size inb_S512x4096_S512x4096_0_0, k1_pay6 (a6.view.read (Elt F) f)⟩] := by
  unfold tripL_k1_t1 trip_k1_t1
  dsimp only
  simp only [View.readAt_eq_ld, View.ld_unit_zero (S := S512x4096) hz]

/-- The candidates before round `k`: round by round the largest remaining one of each row is struck out. -/
def cand (c0 : FVec F S512x4096 .f32) : ℕ → FVec F S512x4096 .f32
  | 0 => c0
  | k + 1 => k1_pay6 (cand c0 k)

/-- There are 32 rounds. -/
theorem trips_eq : k1_t1_loop.trips = 32 := by decide +kernel

/-- The two carried blocks before round `k`: the rounds before have written their columns. -/
def carried (c0 : FVec F S512x4096 .f32) : ℕ → FVec F S512x32 .f32 × IVec S512x32 32
  | 0 => (k1_pay2, k1_pay3)
  | k + 1 => if h : k < k1_t1_loop.trips then
      (k1_pay7 ⟨k, h⟩ (carried c0 k).1 (cand c0 k), k1_pay8 ⟨k, h⟩ (carried c0 k).2 (cand c0 k)) else carried c0 k

theorem carried_succ (c0 : FVec F S512x4096 .f32) (k : Fin k1_t1_loop.trips) : carried c0 (k.val + 1)
    = (k1_pay7 k (carried c0 k.val).1 (cand c0 k.val), k1_pay8 k (carried c0 k.val).2 (cand c0 k.val)) := by
  show (if h : k.val < k1_t1_loop.trips then _ else _) = _
  rw [dif_pos k.isLt]

set_option maxRecDepth 65536 in
/-- The scratch buffer, read after a write of all of it. -/
theorem read_struck (a6 : Memref sig .tc .vmem S512x4096 .f32) (G : BufTy.Contents (Elt F) a6.view.ty)
    (v : FVec F S512x4096 .f32) (L : List (View.Piece (Elt F) S512x4096 .f32)) :
    a6.view.read (Elt F) (a6.view.writes (Elt F) G
      ([⟨Rect.unit ![0, 0] S512x4096.size inb_S512x4096_S512x4096_0_0, v⟩] ++ L)) = v := by
  have hcover : ∀ y : S512x4096.Idx, ∃ p ∈ ([⟨Rect.unit ![0, 0] S512x4096.size inb_S512x4096_S512x4096_0_0, v⟩] ++ L
      : List (View.Piece (Elt F) S512x4096 .f32)), y ∈ p.1.set :=
    fun y => ⟨⟨Rect.unit ![0, 0] S512x4096.size inb_S512x4096_S512x4096_0_0, v⟩, List.mem_cons_self,
      View.mem_set_unit_zero (S := S512x4096) hz inb_S512x4096_S512x4096_0_0 y⟩
  rw [View.read_writes_eq_canon _ _ _ hcover]
  exact View.canon_cons_unit_zero (S := S512x4096) hz _ _ _

/-- The loop's state before round `k`: the carried blocks, and the scratch buffer read at the remaining candidates. -/
theorem st_eq (𝒱 : Variants) (c : Dev nD) (bd : Option 𝒱.V) (i : grid1.Coords) (a1 : Memref sig .tc .vmem S512x512 .f32) (h1 : a1.IsWhole)
    (a2 : Memref sig .tc .vmem S4096x512 .f32) (h2 : a2.IsWhole) (a3 : Memref sig .tc .vmem S512x4096 .f32) (h3 : a3.IsWhole)
    (a4 : Memref sig .tc .vmem S512x32 .f32) (h4 : a4.IsWhole) (a5 : Memref sig .tc .vmem S512x32 .i32) (h5 : a5.IsWhole)
    (a6 : Memref sig .tc .vmem S512x4096 .f32) (h6 : a6.IsWhole) (G : BufTy.Contents (Elt F) a6.view.ty)
    (c0 : FVec F S512x4096 .f32) (hG : a6.view.read (Elt F) G = c0) : ∀ k : ℕ, k ≤ k1_t1_loop.trips →
    (st_k1_t1 𝒱 c bd i a1 h1 a2 h2 a3 h3 a4 h4 a5 h5 a6 h6 G (k1_pay2, k1_pay3) k).1 = carried c0 k
    ∧ a6.view.read (Elt F) (a6.view.writes (Elt F) G
        (st_k1_t1 𝒱 c bd i a1 h1 a2 h2 a3 h3 a4 h4 a5 h5 a6 h6 G (k1_pay2, k1_pay3) k).2) = cand c0 k
  | 0, _ => ⟨rfl, hG⟩
  | k + 1, hk => by
    obtain ⟨e1, e2⟩ := st_eq 𝒱 c bd i a1 h1 a2 h2 a3 h3 a4 h4 a5 h5 a6 h6 G c0 hG k (Nat.le_of_succ_le hk)
    have hs := st_k1_t1_succ 𝒱 c bd i a1 h1 a2 h2 a3 h3 a4 h4 a5 h5 a6 h6 G (k1_pay2 (F := F), k1_pay3) ⟨k, hk⟩
    dsimp only at hs
    rw [hs, trip_result, trip_pieces, e2, e1]
    refine ⟨(carried_succ c0 ⟨k, hk⟩).symm, ?_⟩
    exact read_struck a6 G _ _

/-- What the first store leaves in the scratch buffer: the block's candidates. -/
theorem read_first (c : Dev nD) (a1 : Memref sig .tc .vmem S512x512 .f32) (h1 : a1.IsWhole)
    (a2 : Memref sig .tc .vmem S4096x512 .f32) (h2 : a2.IsWhole) (a3 : Memref sig .tc .vmem S512x4096 .f32) (h3 : a3.IsWhole)
    (a6 : Memref sig .tc .vmem S512x4096 .f32)
    (x0 : Vec F S512x512 .f32) (x1 : Vec F S4096x512 .f32) (x2 : Vec F S512x4096 .f32) :
    a6.view.read (Elt F) (a6.view.writes (Elt F) a6.view.junk (kernelRun1_A.sl.HS0_1 c a1 h1 a2 h2 a3 h3 x0 x1 x2))
      = k1_pay1 x0 x1 x2 := by
  sl_unfold_words
  simp only [View.readAt_eq_ld, Memref.IsWhole.read_unread, View.ld_unit_zero (S := S512x512) hz,
    View.ld_unit_zero (S := S4096x512) hz, View.ld_unit_zero (S := S512x4096) hz]
  exact read_struck a6 _ _ []

/-- The same count, as the loop states it in words. -/
theorem trips_word : Scf.trips (0#32) (Scalar.addi 0#32 32#32) 1#32 = 32 := by decide +kernel

/-- The values a block of rows leaves. -/
theorem out_values (c : Dev nD) (i : grid1.Coords) (a1 : Memref sig .tc .vmem S512x512 .f32) (h1 : a1.IsWhole)
    (a2 : Memref sig .tc .vmem S4096x512 .f32) (h2 : a2.IsWhole) (a3 : Memref sig .tc .vmem S512x4096 .f32) (h3 : a3.IsWhole)
    (a4 : Memref sig .tc .vmem S512x32 .f32) (h4 : a4.IsWhole) (a5 : Memref sig .tc .vmem S512x32 .i32) (h5 : a5.IsWhole)
    (a6 : Memref sig .tc .vmem S512x4096 .f32) (h6 : a6.IsWhole)
    (x0 : Vec F S512x512 .f32) (x1 : Vec F S4096x512 .f32) (x2 : Vec F S512x4096 .f32) :
    out1_A_3 c i a1 h1 a2 h2 a3 h3 a4 h4 a5 h5 a6 h6 x0 x1 x2 = (carried (k1_pay1 x0 x1 x2) 32).1 := by
  unfold out1_A_3
  rw [View.read_writes_eq_canon _ _ _ (cover1_A_3 c i a1 h1 a2 h2 a3 h3 a4 h4 a5 h5 a6 h6 x0 x1 x2)]
  unfold kernelRun1_A
  dsimp only
  refine (View.canon_unit_zero (S := S512x32) hz _ _).trans ?_
  rw [trips_word]
  have h := (st_eq Variants.none c none i a1 h1 a2 h2 a3 h3 a4 h4 a5 h5 a6 h6 _ _
    (read_first c a1 h1 a2 h2 a3 h3 a6 x0 x1 x2) 32 (le_of_eq trips_eq.symm)).1
  exact congrArg (fun p => p.1) h

/-- The indices a block of rows leaves. -/
theorem out_indices (c : Dev nD) (i : grid1.Coords) (a1 : Memref sig .tc .vmem S512x512 .f32) (h1 : a1.IsWhole)
    (a2 : Memref sig .tc .vmem S4096x512 .f32) (h2 : a2.IsWhole) (a3 : Memref sig .tc .vmem S512x4096 .f32) (h3 : a3.IsWhole)
    (a4 : Memref sig .tc .vmem S512x32 .f32) (h4 : a4.IsWhole) (a5 : Memref sig .tc .vmem S512x32 .i32) (h5 : a5.IsWhole)
    (a6 : Memref sig .tc .vmem S512x4096 .f32) (h6 : a6.IsWhole)
    (x0 : Vec F S512x512 .f32) (x1 : Vec F S4096x512 .f32) (x2 : Vec F S512x4096 .f32) :
    out1_A_4 c i a1 h1 a2 h2 a3 h3 a4 h4 a5 h5 a6 h6 x0 x1 x2 = (carried (k1_pay1 x0 x1 x2) 32).2 := by
  unfold out1_A_4
  rw [View.read_writes_eq_canon _ _ _ (cover1_A_4 c i a1 h1 a2 h2 a3 h3 a4 h4 a5 h5 a6 h6 x0 x1 x2)]
  unfold kernelRun1_A
  dsimp only
  refine (View.canon_unit_zero (S := S512x32) hz _ _).trans ?_
  rw [trips_word]
  have h := (st_eq Variants.none c none i a1 h1 a2 h2 a3 h3 a4 h4 a5 h5 a6 h6 _ _
    (read_first c a1 h1 a2 h2 a3 h3 a6 x0 x1 x2) 32 (le_of_eq trips_eq.symm)).1
  exact congrArg (fun p => p.2) h

end Cert.KernelIdeal.Rounds

end
-- ==== Proof.Select.lean ====
module

public import Idealize.ShloMosaic.Lib.SortPrefix
public import Mathlib.Order.BoundedOrder.Basic

@[expose] public section

open Idealize.ShloMosaic

namespace Cert.Select

variable {α : Type} [LinearOrder α] {n : ℕ}

/-- The position with the greater entry is before the other one. -/
def greater (c : Fin n → α) (i j : Fin n) : Bool := decide (c j < c i)

/-- The same, and of two positions with equal entries the lower one is before the other. -/
def greaterFirst (c : Fin n → α) (i j : Fin n) : Bool := decide (c j < c i) || (decide (c i = c j) && decide (i < j))

theorem total (c : Fin n → α) : StrictTotalBefore (greaterFirst c) :=
  StrictTotalBefore.of_key_then_position (fun a b => decide (b < a)) c (fun a => by simp)
    (fun a b d hab hbd => by
      simp only [decide_eq_true_eq] at hab hbd ⊢
      exact hbd.trans hab)
    (fun a b => by
      simp only [decide_eq_true_eq]
      rcases lt_trichotomy a b with h | h | h
      · exact Or.inr (Or.inr h)
      · exact Or.inr (Or.inl h)
      · exact Or.inl h)

/-- Putting a position in front of later positions goes the same way under both orders. -/
theorem insert_eq (c : Fin n → α) (a : Fin n) (l : List (Fin n)) (h : ∀ b ∈ l, a < b) :
    insertBefore (greater c) a l = insertBefore (greaterFirst c) a l := by
  induction l with
  | nil => rfl
  | cons b l ih =>
    have hb : greaterFirst c b a = greater c b a := by
      have : ¬ b < a := not_lt.mpr (h b List.mem_cons_self).le
      simp [greaterFirst, greater, this]
    unfold insertBefore
    rw [hb, ih fun x hx => h x (List.mem_cons_of_mem _ hx)]

/-- On rising positions the stable sort by the entries alone is the sort by entry and then position. -/
theorem sort_eq (c : Fin n → α) (l : List (Fin n)) (h : l.Pairwise (· < ·)) :
    stableSort (greater c) l = stableSort (greaterFirst c) l := by
  induction l with
  | nil => rfl
  | cons a l ih =>
    rw [List.pairwise_cons] at h
    unfold stableSort
    rw [ih h.2]
    exact insert_eq c a _ fun b hb => h.1 b ((perm_stableSort _ l).mem_iff.mp hb)

/-- Both orders list the positions alike. -/
theorem positions_eq (c : Fin n → α) : sortPositions n (greater c) = sortPositions n (greaterFirst c) :=
  sort_eq c _ (List.pairwise_lt_finRange n)

/-- The position whose entry the stable sort by falling entries puts at place `t`. -/
abbrev place (c : Fin n → α) : Fin n → Fin n := sortedFrom (greater c)

theorem place_eq (c : Fin n → α) (t : Fin n) : place c t = sortedFrom (greaterFirst c) t := by
  unfold place sortedFrom
  exact List.getElem_of_eq (positions_eq c) _

/-- An entry that comes later is no greater, and a later equal one stands at a higher position. -/
theorem place_order (c : Fin n → α) {t u : Fin n} (h : t < u) :
    c (place c u) ≤ c (place c t) ∧ (c (place c u) = c (place c t) → place c t < place c u) := by
  have hp := (total c).sorted_stableSort (List.finRange n)
  have hlen : (stableSort (greaterFirst c) (List.finRange n)).length = n := length_sortPositions n (greaterFirst c)
  have hpair := List.pairwise_iff_get.mp hp (t.cast hlen.symm) (u.cast hlen.symm) h
  have hne : place c t ≠ place c u := fun e => absurd (sortedFrom_injective _ e) h.ne
  have hf : greaterFirst c (place c u) (place c t) = false := by rw [place_eq, place_eq]; exact hpair
  simp only [greaterFirst, Bool.or_eq_false_iff, Bool.and_eq_false_iff, decide_eq_false_iff_not, not_lt] at hf
  refine ⟨hf.1, fun e => ?_⟩
  rcases hf.2 with h' | h'
  · exact absurd e h'
  · exact lt_of_le_of_ne h' hne

variable [OrderBot α]

/-- The row with the entries at the first `t` places struck out. -/
def struck (c : Fin n → α) (t : ℕ) (j : Fin n) : α :=
  if ∃ u : Fin n, u.val < t ∧ place c u = j then ⊥ else c j

theorem struck_zero (c : Fin n → α) : struck c 0 = c :=
  funext fun j => if_neg fun ⟨u, hu, _⟩ => Nat.not_lt_zero _ hu

/-- One more round strikes out the entry at the next place. -/
theorem struck_succ (c : Fin n → α) (t : Fin n) (j : Fin n) :
    struck c (t.val + 1) j = if j = place c t then ⊥ else struck c t.val j := by
  unfold struck
  by_cases hj : j = place c t
  · rw [if_pos hj, if_pos ⟨t, Nat.lt_succ_self _, hj.symm⟩]
  · rw [if_neg hj]
    refine if_congr ⟨fun ⟨u, hu, e⟩ => ⟨u, ?_, e⟩, fun ⟨u, hu, e⟩ => ⟨u, hu.trans (Nat.lt_succ_self _), e⟩⟩ rfl rfl
    refine lt_of_le_of_ne (Nat.lt_succ_iff.mp hu) fun h => hj ?_
    rw [← e, Fin.ext h]

/-- What is struck next is still as it was. -/
theorem struck_place (c : Fin n → α) (t : Fin n) : struck c t.val (place c t) = c (place c t) :=
  if_neg fun ⟨u, hu, e⟩ => absurd (congrArg Fin.val (sortedFrom_injective _ e)) hu.ne

/-- The entry at the next place is the greatest that is left. -/
theorem struck_le (c : Fin n → α) (t j : Fin n) : struck c t.val j ≤ c (place c t) := by
  obtain ⟨u, rfl⟩ := sortedFrom_surjective (greater c) j
  by_cases hu : u.val < t.val
  · rw [struck, if_pos ⟨u, hu, rfl⟩]; exact bot_le
  · have e : struck c t.val (place c u) = c (place c u) :=
      if_neg fun ⟨v, hv, e⟩ => hu ((sortedFrom_injective _ e) ▸ hv)
    refine e.le.trans ?_
    rcases eq_or_lt_of_le (not_lt.mp hu) with h | h
    · exact (congrArg (fun x => c (place c x)) (Fin.ext h.symm)).le
    · exact (place_order c h).1

/-- No lower position holds it. -/
theorem struck_ne (c : Fin n → α) (t j : Fin n) (hc : c (place c t) ≠ ⊥) (hj : j < place c t) :
    struck c t.val j ≠ c (place c t) := by
  obtain ⟨u, rfl⟩ := sortedFrom_surjective (greater c) j
  by_cases hu : u.val < t.val
  · rw [struck, if_pos ⟨u, hu, rfl⟩]; exact hc.symm
  · have e : struck c t.val (place c u) = c (place c u) :=
      if_neg fun ⟨v, hv, e⟩ => hu ((sortedFrom_injective _ e) ▸ hv)
    refine fun h => ?_
    rcases eq_or_lt_of_le (not_lt.mp hu) with h' | h'
    · exact absurd hj (by rw [show u = t from Fin.ext h'.symm]; exact lt_irrefl _)
    · exact absurd ((place_order c h').2 (e.symm.trans h)) hj.asymm

end Cert.Select
-- ==== Proof.Row.lean ====
module

public import proofs.«01_k».proof.Proof.Rounds
public import proofs.«01_k».proof.Proof.Select
public import Idealize.ShloMosaic.Lib.ValueIdx
public import Idealize.ShloMosaic.Lib.WordCmp
public import Idealize.ShloMosaic.Lib.WordArith
public import Idealize.ShloMosaic.Lib.SortNet.Extract
public import Idealize.ShloMosaic.PureOps.Ideal.Laws

@[expose] public section

noncomputable section

open Idealize.ShloMosaic Idealize.ShloMosaic.TcCoe Idealize.SL.Sem Idealize.ShloMosaic.ValueIdx

namespace Cert.KernelIdeal.Row

open Cert.KernelIdeal Cert.KernelIdeal.Gen Cert.KernelIdeal.Rounds

/-! ## Layout: a vector with one entry per row, seen as a column and spread over the row -/

variable {α : Type}

theorem column_apply (x : S512.Idx → α) (r : Fin 512) :
    shapeCast S512x1 x shapeCasts_S512_S512x1 (ix2 r (0 : Fin 1)) = x (ix1 r) := by
  refine shapeCast_apply x _ _ _ ?_
  rw [Shape.rowMajor_val_two, Shape.rowMajor_val_one]
  show r.val = r.val * 1 + 0
  omega

theorem spread_apply (x : S512x1.Idx → α) (r : Fin 512) (j : Fin 4096) :
    broadcastTo S512x4096 x broadcasts_S512x1_S512x4096 (ix2 r j) = x (ix2 r (0 : Fin 1)) := by
  refine broadcastTo_apply x _ _ _ fun a => ?_
  match a with
  | ⟨0, _⟩ => rfl
  | ⟨1, _⟩ => rfl

theorem spread32_apply (x : S512x1.Idx → α) (r : Fin 512) (j : Fin 32) :
    broadcastTo S512x32 x broadcasts_S512x1_S512x32 (ix2 r j) = x (ix2 r (0 : Fin 1)) := by
  refine broadcastTo_apply x _ _ _ fun a => ?_
  match a with
  | ⟨0, _⟩ => rfl
  | ⟨1, _⟩ => rfl

theorem lift_eq (r : Fin 512) (k : Fin 4096) : reduces_S512x4096_S512.lift (ix1 r) k = ix2 r k :=
  funext fun a => Fin.ext (by
    match a with
    | ⟨0, _⟩ => rfl
    | ⟨1, _⟩ => rfl)

/-! ## One round on a row -/

/-- The fold of `max` from the least element is the greatest entry. -/
theorem fold_max_eq {n : ℕ} (f : Fin n → EReal) (s : Fin n) (h : ∀ j, f j ≤ f s) :
    (Finset.univ : Finset (Fin n)).fold max ⊥ f = f s := by
  refine le_antisymm ((Finset.fold_max_le _).mpr ⟨bot_le, fun j _ => h j⟩) ?_
  exact (Finset.le_fold_max _).mpr (Or.inr ⟨s, Finset.mem_univ _, le_rfl⟩)

theorem minsi_le_fold {ι : Type} [DecidableEq ι] (w acc : BitVec 32) (f : ι → BitVec 32) (S : Finset ι)
    (ha : w.toInt ≤ acc.toInt) (h : ∀ i ∈ S, w.toInt ≤ (f i).toInt) : w.toInt ≤ (S.fold IntOp.minsi acc f).toInt := by
  induction S using Finset.induction_on with
  | empty => rw [Finset.fold_empty]; exact ha
  | insert a S hna ih =>
    rw [Finset.fold_insert hna, SortNet.toInt_minsi]
    exact le_min (h a (Finset.mem_insert_self _ _)) (ih fun i hi => h i (Finset.mem_insert_of_mem hi))

/-- The least of a family of words is the one below all others. -/
theorem fold_minsi_eq {ι : Type} [DecidableEq ι] (acc : BitVec 32) (f : ι → BitVec 32) (S : Finset ι) (s : ι) (hs : s ∈ S)
    (ha : (f s).toInt ≤ acc.toInt) (h : ∀ i ∈ S, (f s).toInt ≤ (f i).toInt) : S.fold IntOp.minsi acc f = f s := by
  refine BitVec.eq_of_toInt_eq (le_antisymm ?_ (minsi_le_fold _ _ _ _ ha h))
  rw [← Finset.insert_erase hs, Finset.fold_insert (Finset.notMem_erase _ _), SortNet.toInt_minsi]
  exact min_le_left _ _

/-- `s` is the first position at which the row `f` is greatest. -/
def First {n : ℕ} (f : Fin n → EReal) (s : Fin n) : Prop := (∀ j, f j ≤ f s) ∧ ∀ j, j < s → f j ≠ f s

theorem ofBits_neg_inf : Ideal.ofBits .f32 0xFF800000#32 = ⊥ := by
  simp [Ideal.ofBits, Ideal.ieee]

/-- The row's maximum is its entry at the first maximal column. -/
theorem max_apply (v : FVec Ideal S512x4096 .f32) (r : Fin 512) (s : Fin 4096) (h : First (fun j => v (ix2 r j)) s) :
    k1_pay4 (F := Ideal) v (ix2 r (0 : Fin 1)) = v (ix2 r s) := by
  unfold k1_pay4
  dsimp only
  rw [column_apply]
  refine (Ideal.multiReduction_maximumf_single v _ reduces_S512x4096_S512 _ _ (ix1 r)).trans ?_
  have e : v ∘ reduces_S512x4096_S512.lift (ix1 r) = fun k => v (ix2 r k) := funext fun k => congrArg v (lift_eq r k)
  rw [e]
  show (Finset.univ : Finset (Fin 4096)).fold max (Ideal.ofBits .f32 0xFF800000#32) _ = _
  rw [ofBits_neg_inf]
  exact fold_max_eq _ s h.1

theorem toInt_ofNat (k : ℕ) (h : k < 2 ^ 31) : (BitVec.ofNat 32 k).toInt = k := by
  have h1 : (BitVec.ofNat 32 k).toNat = k := WordCmp.toNat_ofNat_of_lt (by omega)
  rw [BitVec.toInt_eq_toNat_of_lt (by omega), h1]

/-- The least column that holds the maximum is the first maximal column. -/
theorem index_apply (v : FVec Ideal S512x4096 .f32) (r : Fin 512) (s : Fin 4096) (h : First (fun j => v (ix2 r j)) s) :
    k1_pay5 (F := Ideal) v (ix2 r (0 : Fin 1)) = BitVec.ofNat 32 s.val := by
  unfold k1_pay5
  dsimp only
  rw [column_apply]
  refine (multiReductionI_eq_fold .minsi _ _ reduces_S512x4096_S512 _ (ix1 r)).trans ?_
  refine (reduces_S512x4096_S512.fold_filter_drop_single (IKind.minsi.op) _ _ (ix1 r)).trans ?_
  generalize hf : select (cmpf CmpFPredicate.oeq v (broadcastTo S512x4096 (k1_pay4 v) broadcasts_S512x1_S512x4096))
    (iota Kind.tc S512x4096 32 [1] iota_S512x4096_d1_w32) (broadcast S512x4096 4096#32) = f
  have hread : ∀ j : Fin 4096, f (ix2 r j) = if v (ix2 r j) = v (ix2 r s) then BitVec.ofNat 32 j.val else 4096#32 := fun j => by
    rw [← hf, select_apply, cmpf_apply, spread_apply, max_apply v r s h, iota_single_apply]
    show Scalar.select (BitVec.ofBool (decide (v (ix2 r j) = v (ix2 r s)))) _ _ = _
    by_cases e : v (ix2 r j) = v (ix2 r s)
    · rw [if_pos e, decide_eq_true e]; rfl
    · rw [if_neg e, decide_eq_false e]; rfl
  have hs : f (ix2 r s) = BitVec.ofNat 32 s.val := (hread s).trans (if_pos rfl)
  have e : f ∘ reduces_S512x4096_S512.lift (ix1 r) = fun k => f (ix2 r k) := funext fun k => congrArg f (lift_eq r k)
  rw [e]
  refine (fold_minsi_eq _ (fun k : Fin 4096 => f (ix2 r k)) Finset.univ s (Finset.mem_univ _) ?_ fun i _ => ?_).trans hs
  · rw [hs, toInt_ofNat _ (by have := s.isLt; omega)]
    have := s.isLt
    show (s.val : ℤ) ≤ 2147483647
    omega
  · have hi1 := i.isLt
    rw [hs, hread]
    have h1 := s.isLt
    split
    · next e =>
      rw [toInt_ofNat _ (by omega), toInt_ofNat _ (by omega)]
      exact_mod_cast not_lt.mp fun hlt => h.2 i hlt e
    · rw [toInt_ofNat _ (by omega)]
      show (s.val : ℤ) ≤ 4096
      omega

/-- A select on an equality of two small numbers as words. -/
theorem select_eq {β : Type} (a b : ℕ) (ha : a < 2 ^ 32) (hb : b < 2 ^ 32) (x y : β) :
    Scalar.select (IntOp.cmpi .eq (BitVec.ofNat 32 a) (BitVec.ofNat 32 b)) x y = if a = b then x else y := by
  show Scalar.select (BitVec.ofBool (BitVec.ofNat 32 a == BitVec.ofNat 32 b)) x y = _
  by_cases e : a = b
  · rw [if_pos e, e, beq_self_eq_true]; rfl
  · have hne : BitVec.ofNat 32 a ≠ BitVec.ofNat 32 b := fun h => e ((WordCmp.ofNat_eq_ofNat_iff ha hb).mp h)
    rw [if_neg e, beq_false_of_ne hne]; rfl

theorem iv_eq (k : Fin k1_t1_loop.trips) : Scf.iv 0#32 1#32 k = BitVec.ofNat 32 k.val := by
  have h : k.val < 32 := Nat.lt_of_lt_of_eq k.isLt trips_eq
  simp [Scf.iv]

/-- The round strikes out the picked entry. -/
theorem strike_apply (v : FVec Ideal S512x4096 .f32) (r : Fin 512) (s j : Fin 4096) (h : First (fun j => v (ix2 r j)) s) :
    k1_pay6 (F := Ideal) v (ix2 r j) = if j = s then ⊥ else v (ix2 r j) := by
  unfold k1_pay6
  dsimp only
  rw [shapeCast_self, select_apply]
  show Scalar.select (IntOp.cmpi .eq _ _) (Ideal.ofBits .f32 0xFF800000#32) _ = _
  rw [spread_apply, index_apply v r s h, iota_single_apply, ofBits_neg_inf]
  refine (select_eq j.val s.val (by have := j.isLt; omega) (by have := s.isLt; omega) _ _).trans ?_
  exact if_congr Fin.ext_iff.symm rfl rfl

/-- The round writes the picked entry into its own column of the values. -/
theorem value_apply (k : Fin k1_t1_loop.trips) (acc : FVec Ideal S512x32 .f32) (v : FVec Ideal S512x4096 .f32) (r : Fin 512)
    (s : Fin 4096) (j : Fin 32) (h : First (fun j => v (ix2 r j)) s) :
    k1_pay7 (F := Ideal) k acc v (ix2 r j) = if j.val = k.val then v (ix2 r s) else acc (ix2 r j) := by
  unfold k1_pay7
  dsimp only
  rw [shapeCast_self, select_apply, spread32_apply, max_apply v r s h]
  show Scalar.select (IntOp.cmpi .eq _ (Scf.iv 0#32 1#32 k)) _ _ = _
  rw [iota_single_apply, iv_eq]
  exact select_eq j.val k.val (by have := j.isLt; omega) (by have := Nat.lt_of_lt_of_eq k.isLt trips_eq; omega) _ _

/-- The round writes the picked position into its own column of the indices. -/
theorem place_apply (k : Fin k1_t1_loop.trips) (acc : IVec S512x32 32) (v : FVec Ideal S512x4096 .f32) (r : Fin 512)
    (s : Fin 4096) (j : Fin 32) (h : First (fun j => v (ix2 r j)) s) :
    k1_pay8 (F := Ideal) k acc v (ix2 r j) = if j.val = k.val then BitVec.ofNat 32 s.val else acc (ix2 r j) := by
  unfold k1_pay8
  dsimp only
  rw [shapeCast_self, select_apply, spread32_apply, index_apply v r s h]
  show Scalar.select (IntOp.cmpi .eq _ (Scf.iv 0#32 1#32 k)) _ _ = _
  rw [iota_single_apply, iv_eq]
  exact select_eq j.val k.val (by have := j.isLt; omega) (by have := Nat.lt_of_lt_of_eq k.isLt trips_eq; omega) _ _

/-! ## All rounds on a row -/

open Cert.Select

/-- Row `r` of a block. -/
abbrev rowOf (v : FVec Ideal S512x4096 .f32) (r : Fin 512) : Fin 4096 → EReal := fun j => v (ix2 r j)

/-- Place `t` of the first thirty-two. -/
abbrev up (t : Fin 32) : Fin 4096 := t.castLE (by decide)

/-- Before round `k` the candidates of row `r` are the row with its `k` greatest entries struck out, and the carried
    blocks hold those entries and their positions. -/
theorem rounds_apply (v : FVec Ideal S512x4096 .f32) (r : Fin 512)
    (hv : ∀ t : Fin 32, rowOf v r (place (rowOf v r) (up t)) ≠ ⊥) : ∀ k : ℕ, k ≤ 32 →
    rowOf (cand v k) r = struck (rowOf v r) k ∧ ∀ j : Fin 32, j.val < k →
      (carried v k).1 (ix2 r j) = rowOf v r (place (rowOf v r) (up j))
      ∧ (carried v k).2 (ix2 r j) = BitVec.ofNat 32 (place (rowOf v r) (up j)).val
  | 0, _ => ⟨(struck_zero _).symm, fun j hj => absurd hj (Nat.not_lt_zero _)⟩
  | k + 1, hk => by
    obtain ⟨e, ih⟩ := rounds_apply v r hv k (Nat.le_of_succ_le hk)
    have hk' : k < k1_t1_loop.trips := Nat.lt_of_lt_of_eq hk trips_eq.symm
    have hf : First (fun j => cand v k (ix2 r j)) (place (rowOf v r) (up ⟨k, hk⟩)) := by
      rw [show (fun j => cand v k (ix2 r j)) = struck (rowOf v r) k from e]
      have h1 := struck_place (rowOf v r) (up ⟨k, hk⟩)
      refine ⟨fun j => ?_, fun j hj => ?_⟩
      · exact (struck_le (rowOf v r) (up ⟨k, hk⟩) j).trans h1.symm.le
      · exact fun h => struck_ne (rowOf v r) (up ⟨k, hk⟩) j (hv ⟨k, hk⟩) hj (h.trans h1)
    have hval : cand v k (ix2 r (place (rowOf v r) (up ⟨k, hk⟩))) = rowOf v r (place (rowOf v r) (up ⟨k, hk⟩)) :=
      (congrFun e _).trans (struck_place (rowOf v r) (up ⟨k, hk⟩))
    refine ⟨funext fun j => ?_, fun j hj => ?_⟩
    · show k1_pay6 (F := Ideal) (cand v k) (ix2 r j) = _
      rw [strike_apply _ r _ j hf]
      refine Eq.trans ?_ (struck_succ (rowOf v r) (up ⟨k, hk⟩) j).symm
      exact if_congr Iff.rfl rfl (congrFun e j)
    · have hs := carried_succ v ⟨k, hk'⟩
      dsimp only at hs
      rw [hs]
      dsimp only
      rw [value_apply _ _ _ r _ j hf, place_apply _ _ _ r _ j hf]
      by_cases hjk : j.val = k
      · rw [if_pos hjk, if_pos hjk, hval, show j = ⟨k, hk⟩ from Fin.ext hjk]
        exact ⟨rfl, rfl⟩
      · rw [if_neg hjk, if_neg hjk]
        exact ih j (by omega)

end Cert.KernelIdeal.Row

end
-- ==== Proof.Probs.lean ====
module

public import proofs.«01_k».proof.Proof.Row
public import proofs.«01_k».proof.Proof.Gen.ReferenceIdeal.Read

@[expose] public section

noncomputable section

open Idealize.ShloMosaic Idealize.ShloMosaic.TcCoe Idealize.SL.Sem Idealize.ShloMosaic.ValueIdx

namespace Cert.KernelIdeal.Probs

open Cert.KernelIdeal Cert.KernelIdeal.Gen Cert.KernelIdeal.Row

theorem dot_lhs0 (i : S512x4096.Idx) (q : dot_S512x512_S4096x512_S512x4096_1_1_0_0_n_n.contr.Idx) :
    (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide),
    dif_pos (show (0 : Fin S512x512.rank) ∈ dot_S512x512_S4096x512_S512x4096_1_1_0_0_n_n.lhsNonContracting by decide)]
  rfl
theorem dot_rhs0 (i : S512x4096.Idx) (q : dot_S512x512_S4096x512_S512x4096_1_1_0_0_n_n.contr.Idx) :
    (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide),
    dif_pos (show (0 : Fin S4096x512.rank) ∈ dot_S512x512_S4096x512_S512x4096_1_1_0_0_n_n.rhsNonContracting by decide)]
  rfl

/-- The similarity of a row of the block with row `j` of all of them. -/
theorem similarity_apply (x0 : FVec Ideal S512x512 .bf16) (x1 : FVec Ideal S4096x512 .bf16) (r : Fin 512) (j : Fin 4096) :
    matmul dot_S512x512_S4096x512_S512x4096_1_1_0_0_n_n none x0 x1 (constant (F := Ideal) S512x4096 .f32 0x00000000#32) (ix2 r j)
      = ∑ k : Fin 512, x0 (ix2 r k) * x1 (ix2 j k) := by
  refine (Ideal.matmul_constant_zero_apply dot_S512x512_S4096x512_S512x4096_1_1_0_0_n_n none x0 x1 (ix2 r j)).trans ?_
  rw [← Equiv.sum_comp (ValueIdx.contrEquiv1 dot_S512x512_S4096x512_S512x4096_1_1_0_0_n_n 512 rfl rfl).symm]
  refine Finset.sum_congr rfl fun k _ => ?_
  have hk := ValueIdx.contrEquiv1_symm_val dot_S512x512_S4096x512_S512x4096_1_1_0_0_n_n 512 rfl rfl k
  have el : dot_S512x512_S4096x512_S512x4096_1_1_0_0_n_n.lhsIdx (ix2 r j)
      ((ValueIdx.contrEquiv1 dot_S512x512_S4096x512_S512x4096_1_1_0_0_n_n 512 rfl rfl).symm k) = ix2 r k :=
    funext fun a => Fin.ext (by
      match a with
      | ⟨0, _⟩ => exact dot_lhs0 _ _
      | ⟨1, _⟩ => exact (dot_S512x512_S4096x512_S512x4096_1_1_0_0_n_n.lhsIdx_val_of_single rfl _ _).trans hk)
  have er : dot_S512x512_S4096x512_S512x4096_1_1_0_0_n_n.rhsIdx (ix2 r j)
      ((ValueIdx.contrEquiv1 dot_S512x512_S4096x512_S512x4096_1_1_0_0_n_n 512 rfl rfl).symm k) = ix2 j k :=
    funext fun a => Fin.ext (by
      match a with
      | ⟨0, _⟩ => exact dot_rhs0 _ _
      | ⟨1, _⟩ => exact (dot_S512x512_S4096x512_S512x4096_1_1_0_0_n_n.rhsIdx_val_of_single rfl _ _).trans hk)
  rw [el, er]

/-- A masked similarity: the similarity times the link's weight where there is a link, else zero. -/
def masked (s a : EReal) : EReal := Scalar.select (Ideal.cmp .ogt a 0) (s * a) 0

/-- A row's probabilities: each masked similarity over the row's sum where there is a link, else the least value. -/
def prob (s a : Fin 4096 → EReal) (j : Fin 4096) : EReal :=
  Scalar.select (Ideal.cmp .ogt (a j) 0) (Ideal.div (masked (s j) (a j)) (∑ k : Fin 4096, masked (s k) (a k))) ⊥

/-- The kernel's candidates of a block of rows. -/
theorem candidates_apply (x0 : FVec Ideal S512x512 .f32) (x1 : FVec Ideal S4096x512 .f32) (x2 : FVec Ideal S512x4096 .f32)
    (r : Fin 512) (j : Fin 4096) : k1_pay1 (F := Ideal) x0 x1 x2 (ix2 r j)
      = prob (fun j => ∑ k : Fin 512, x0 (ix2 r k) * x1 (ix2 j k)) (fun j => x2 (ix2 r j)) j := by
  unfold k1_pay1
  dsimp only
  rw [shapeCast_self, shapeCast_self, shapeCast_self]
  generalize hs : matmul dot_S512x512_S4096x512_S512x4096_1_1_0_0_n_n none (truncf FTy.bf16 x0 bitsLt_bf16_f32)
    (truncf FTy.bf16 x1 bitsLt_bf16_f32) (constant S512x4096 FTy.f32 0#32) = s
  have hsim : ∀ j : Fin 4096, s (ix2 r j) = ∑ k : Fin 512, x0 (ix2 r k) * x1 (ix2 j k) := fun j => by
    rw [← hs]; exact similarity_apply _ _ r j
  generalize hm : select (cmpf CmpFPredicate.ogt x2 (broadcast S512x4096 (Scalar.ofBits FTy.f32 0#32))) (mulf s x2)
    (broadcast S512x4096 (Scalar.ofBits FTy.f32 0#32)) = w
  have hw : ∀ j : Fin 4096, w (ix2 r j) = masked (∑ k : Fin 512, x0 (ix2 r k) * x1 (ix2 j k)) (x2 (ix2 r j)) := fun j => by
    rw [← hm, ← hsim j]
    show Scalar.select (Ideal.cmp .ogt _ (Ideal.ofBits .f32 0x00000000#32)) _ (Ideal.ofBits .f32 0x00000000#32) = _
    rw [Ideal.ofBits_zero_f32]
    rfl
  rw [select_apply, divf_apply, spread_apply, column_apply]
  have hsum : multiReduction .add [1] S512 w 0x00000000#32 reduces_S512x4096_S512 (.inl rfl) rfl (ix1 r)
      = ∑ k : Fin 4096, masked (∑ l : Fin 512, x0 (ix2 r l) * x1 (ix2 k l)) (x2 (ix2 r k)) :=
    (Ideal.multiReduction_add_single w _ reduces_S512x4096_S512 _ _ (ix1 r)).trans
      (Finset.sum_congr rfl fun k _ => (congrArg w (lift_eq r k)).trans (hw k))
  show Scalar.select (Ideal.cmp .ogt _ (Ideal.ofBits .f32 0x00000000#32)) (Ideal.div _ (multiReduction .add [1] S512 w
    0x00000000#32 reduces_S512x4096_S512 (.inl rfl) rfl (ix1 r))) (Ideal.ofBits .f32 0xFF800000#32) = _
  rw [hsum, hw, Ideal.ofBits_zero_f32, ofBits_neg_inf]
  rfl

end Cert.KernelIdeal.Probs

namespace Cert.ReferenceIdeal.Probs

open Cert.ReferenceIdeal Cert.ReferenceIdeal.Gen Cert.ReferenceIdeal.Read Cert.KernelIdeal.Probs

variable (a : FVec Ideal S4096x4096 .f32) (x : FVec Ideal S4096x512 .f32)

theorem similarity_apply (R j : Fin 4096) : val_main_v5 (F := Ideal) x (ix2 R j)
    = ∑ k : Fin 512, val_main_v3 (F := Ideal) x (ix2 R k) * val_main_v3 (F := Ideal) x (ix2 j k) := by
  rw [val_main_v5_apply]
  refine Finset.sum_congr rfl fun k _ => ?_
  rw [val_main_v4_apply]
  have el : lidx_main_v5 (ix2 R j) k = ix2 R k := funext fun a => by
    match a with
    | ⟨0, _⟩ => rfl
    | ⟨1, _⟩ => rfl
  have er : idx_main_v4 (ridx_main_v5 (ix2 R j) k) = ix2 j k := funext fun a => by
    match a with
    | ⟨0, _⟩ => rfl
    | ⟨1, _⟩ => rfl
  rw [el, er]

theorem masked_apply (R j : Fin 4096) : val_main_v9 (F := Ideal) a x (ix2 R j)
    = masked (val_main_v5 (F := Ideal) x (ix2 R j)) (a (ix2 R j)) := by
  rw [val_main_v9_apply, val_main_v8_apply, val_main_v7_apply, val_main_v6_apply, val_main_call2_v1_apply,
    val_main_call2_v0_apply, val_main_cst_1_apply, val_main_cst_0_apply]
  show Scalar.select (Ideal.cmp .ogt _ (Ideal.ofBits .f32 0x00000000#32)) _ (Ideal.ofBits .f32 0x00000000#32) = _
  rw [Ideal.ofBits_zero_f32]
  rfl

/-- The reference's probabilities. -/
theorem probs_apply (R j : Fin 4096) : val_main_v14 (F := Ideal) a x (ix2 R j)
    = prob (fun j => ∑ k : Fin 512, val_main_v3 (F := Ideal) x (ix2 R k) * val_main_v3 (F := Ideal) x (ix2 j k))
        (fun j => a (ix2 R j)) j := by
  rw [val_main_v14_apply, val_main_v8_apply, val_main_v7_apply, val_main_v13_apply, val_main_v12_apply, val_main_v11_apply,
    val_main_v10_apply, val_main_call3_v1_apply, val_main_call3_v0_apply, val_main_cst_3_apply, val_main_cst_0_apply,
    val_main_cst_2_apply, masked_apply, similarity_apply]
  have hsum : (∑ k : Fin 4096, val_main_v9 (F := Ideal) a x (idx_main_v10 (idx_main_v11 (idx_main_v12 (ix2 R j))) k))
      = ∑ k : Fin 4096, masked (∑ l : Fin 512, val_main_v3 (F := Ideal) x (ix2 R l) * val_main_v3 (F := Ideal) x (ix2 k l))
          (a (ix2 R k)) := Finset.sum_congr rfl fun k _ => by
    have e : idx_main_v10 (idx_main_v11 (idx_main_v12 (ix2 R j))) k = ix2 R k := funext fun a => by
      match a with
      | ⟨0, _⟩ => rfl
      | ⟨1, _⟩ => rfl
    rw [e, masked_apply, similarity_apply]
  rw [hsum]
  show Scalar.select (Ideal.cmp .ogt _ (Ideal.ofBits .f32 0x00000000#32)) (Ideal.div _ (Ideal.ofBits .f32 0x00000000#32 + _))
    (Ideal.ofBits .f32 0xFF800000#32) = _
  rw [Ideal.ofBits_zero_f32, Cert.KernelIdeal.Row.ofBits_neg_inf, zero_add]
  rfl

end Cert.ReferenceIdeal.Probs

end
-- ==== Proof.Norm.lean ====
module

public import proofs.«01_k».proof.Proof.Probs
public import Idealize.ShloMosaic.Lib.KernelVsHost
public import Mathlib.Algebra.BigOperators.Fin

@[expose] public section

noncomputable section

open Idealize.ShloMosaic Idealize.ShloMosaic.TcCoe Idealize.SL.Sem Idealize.ShloMosaic.ValueIdx

namespace Cert.KernelIdeal.Norm

open Cert.KernelIdeal Cert.KernelIdeal.Gen

/-! ## A row's lanes, counted around the end -/

/-- Lane `l` of row `r`, counted around the end. -/
def lane (v : FVec Ideal S512x128 .f32) (r : Fin 512) (l : ℕ) : EReal := v (ix2 r (⟨l % 128, Nat.mod_lt _ (by decide)⟩ : Fin 128))

theorem lane_add (v w : FVec Ideal S512x128 .f32) (r : Fin 512) (l : ℕ) : lane (addf v w) r l = lane v r l + lane w r l := rfl

/-- A rotation by `128 - m` reads `m` lanes further on. -/
theorem lane_rotate (b : BitVec 32) (m : ℕ) (hb : b.toNat + m = 128) (hm : m ≠ 0) (v : FVec Ideal S512x128 .f32) (r : Fin 512) (l : ℕ) :
    lane (dynamicRotate 1 b none v rotates_S512x128_d1) r l = lane v r (m + l) := by
  unfold lane
  refine dynamicRotate_apply (1 : Fin 2) b v rotates_S512x128_d1 _ _ fun a => ?_
  match a with
  | ⟨0, _⟩ => rfl
  | ⟨1, _⟩ =>
    refine Eq.trans ?_ (if_pos rfl).symm
    show (m + l) % 128 = (l % 128 + 128 - b.toNat % 128) % 128
    omega

/-- The square at column `k` of row `r`, counted around the end. -/
def square (v : FVec Ideal S512x512 .f32) (r : Fin 512) (k : ℕ) : EReal :=
  v (ix2 r (⟨k % 512, Nat.mod_lt _ (by decide)⟩ : Fin 512)) * v (ix2 r (⟨k % 512, Nat.mod_lt _ (by decide)⟩ : Fin 512))

theorem lane_slice (v : FVec Ideal S512x512 .f32) (o : ℕ) (h : S512x512.Slices ![0, o] S512x128) (ho : o + 128 ≤ 512) (r : Fin 512) (l : ℕ)
    (hl : l < 128) : lane (extractStridedSlice S512x128 ![0, o] (mulf v v) h) r l = square v r (o + l) := by
  unfold lane square
  refine extractStridedSlice_apply _ (mulf v v) h _ (ix2 r (⟨(o + l) % 512, Nat.mod_lt _ (by decide)⟩ : Fin 512)) fun a => ?_
  match a with
  | ⟨0, _⟩ => show r.val = 0 + r.val; omega
  | ⟨1, _⟩ => show (o + l) % 512 = o + l % 128; omega

/-- A sum over `a * b` numbers, by rows of `b`. -/
theorem sum_rows {M : Type} [AddCommMonoid M] (g : ℕ → M) (a b : ℕ) :
    ∑ i ∈ Finset.range (a * b), g i = ∑ i ∈ Finset.range a, ∑ j ∈ Finset.range b, g (i * b + j) := by
  induction a with
  | zero => simp
  | succ a ih => rw [Nat.succ_mul, Finset.sum_range_add, ih, Finset.sum_range_succ]

/-- The four quarters of a row, added lane by lane. -/
theorem quarters (v : FVec Ideal S512x512 .f32) (r : Fin 512) (l : ℕ) (hl : l < 128) (h0 h1 h2 h3) :
    lane (addf (addf (addf (extractStridedSlice S512x128 ![0, 0] (mulf v v) h0) (extractStridedSlice S512x128 ![0, 128] (mulf v v) h1))
      (extractStridedSlice S512x128 ![0, 256] (mulf v v) h2)) (extractStridedSlice S512x128 ![0, 384] (mulf v v) h3)) r l
      = ∑ i ∈ Finset.range 4, square v r (i * 128 + l) := by
  rw [lane_add, lane_add, lane_add, lane_slice v 0 h0 (by omega) r l hl, lane_slice v 128 h1 (by omega) r l hl,
    lane_slice v 256 h2 (by omega) r l hl, lane_slice v 384 h3 (by omega) r l hl]
  simp only [Finset.sum_range_succ, Finset.sum_range_zero, zero_add, Nat.zero_mul, Nat.one_mul, Nat.reduceMul]

/-- The partial sums of the rotations: lane `l` has the lanes `l`, `l + 8`, … added, and then the same from four lanes on. -/
theorem partial_apply (v : FVec Ideal S512x512 .f32) (r : Fin 512) (l : ℕ) : ∃ w : ℕ → EReal,
    (∀ k, k < 128 → w k = ∑ i ∈ Finset.range 4, square v r (i * 128 + k))
    ∧ lane (k0_pay2 (F := Ideal) v) r = fun l => (∑ m ∈ Finset.range 16, w (m * 8 + l)) + ∑ m ∈ Finset.range 16, w (m * 8 + (4 + l)) := by
  unfold k0_pay2
  dsimp only
  generalize hq : addf (addf (addf (extractStridedSlice S512x128 ![0, 0] (mulf v v) slices_S512x512_o0_0_S512x128)
    (extractStridedSlice S512x128 ![0, 128] (mulf v v) slices_S512x512_o0_128_S512x128))
    (extractStridedSlice S512x128 ![0, 256] (mulf v v) slices_S512x512_o0_256_S512x128))
    (extractStridedSlice S512x128 ![0, 384] (mulf v v) slices_S512x512_o0_384_S512x128) = q
  refine ⟨lane q r, fun k hk => by rw [← hq]; exact quarters v r k hk _ _ _ _, funext fun l => ?_⟩
  simp only [lane_add, lane_rotate 120#32 8 rfl (by decide), lane_rotate 112#32 16 rfl (by decide), lane_rotate 104#32 24 rfl (by decide),
    lane_rotate 96#32 32 rfl (by decide), lane_rotate 88#32 40 rfl (by decide), lane_rotate 80#32 48 rfl (by decide),
    lane_rotate 72#32 56 rfl (by decide), lane_rotate 64#32 64 rfl (by decide), lane_rotate 56#32 72 rfl (by decide),
    lane_rotate 48#32 80 rfl (by decide), lane_rotate 40#32 88 rfl (by decide), lane_rotate 32#32 96 rfl (by decide),
    lane_rotate 24#32 104 rfl (by decide), lane_rotate 16#32 112 rfl (by decide), lane_rotate 8#32 120 rfl (by decide),
    lane_rotate 124#32 4 rfl (by decide)]
  simp only [Finset.sum_range_succ, Finset.sum_range_zero, zero_add, Nat.zero_mul, Nat.one_mul, Nat.reduceMul]

/-- The lane that the kernel reads holds the whole row's sum of squares. -/
theorem sumsq_apply (v : FVec Ideal S512x512 .f32) (r : Fin 512) :
    (lane (k0_pay2 (F := Ideal) v) r 0 + lane (k0_pay2 (F := Ideal) v) r 2)
      + (lane (k0_pay2 (F := Ideal) v) r 1 + lane (k0_pay2 (F := Ideal) v) r 3)
      = ∑ k : Fin 512, v (ix2 r k) * v (ix2 r k) := by
  obtain ⟨w, hw, e⟩ := partial_apply v r 0
  have h1 : ∑ k : Fin 512, v (ix2 r k) * v (ix2 r k) = ∑ k ∈ Finset.range 512, square v r k := by
    rw [Finset.sum_range]
    refine Finset.sum_congr rfl fun k _ => ?_
    have : (⟨k.val % 512, Nat.mod_lt _ (by decide)⟩ : Fin 512) = k := Fin.ext (Nat.mod_eq_of_lt k.isLt)
    unfold square
    rw [this]
  have h2 : ∑ k ∈ Finset.range 512, square v r k = ∑ l ∈ Finset.range 128, w l := by
    rw [show 512 = 4 * 128 from rfl, sum_rows, Finset.sum_comm]
    exact Finset.sum_congr rfl fun l hl => (hw l (Finset.mem_range.mp hl)).symm
  have h3 : ∑ l ∈ Finset.range 128, w l = ∑ b ∈ Finset.range 8, ∑ m ∈ Finset.range 16, w (m * 8 + b) := by
    rw [show 128 = 16 * 8 from rfl, sum_rows, Finset.sum_comm]
  rw [h1, h2, h3, e]
  generalize hu : (fun b => ∑ m ∈ Finset.range 16, w (m * 8 + b)) = u
  have hu' : ∀ b, ∑ m ∈ Finset.range 16, w (m * 8 + b) = u b := fun b => congrFun hu b
  simp only [hu']
  rw [show Finset.range 8 = {0, 1, 2, 3, 4, 5, 6, 7} from rfl]
  simp only [Finset.sum_range_succ, Finset.sum_range_zero, zero_add, Nat.reduceAdd]
  simp
  abel

/-! ## The scalar step -/

/-- The lower bound of the norm is a positive real number. -/
theorem eps_pos : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

theorem one_bits : Ideal.ofBits .f32 0x3F800000#32 = 1 := by
  simp [Ideal.ofBits, Ideal.ieee, -EReal.coe_mul]; norm_num

/-- A sum of squares times the inverse of its root, zero where the sum is zero, is the root, if that is finite. -/
theorem root_eq (n : EReal) (h0 : 0 ≤ n) (ht : Ideal.sqrt n < ⊤) :
    Scalar.select (Ideal.cmp .oeq n 0) 0 (n * Ideal.rsqrt n) = Ideal.sqrt n ∧ ∃ s : ℝ, 0 ≤ s ∧ Ideal.sqrt n = (s : EReal) := by
  induction n using EReal.rec with
  | bot => exact absurd h0 (by simp)
  | top => exact absurd ht (by simp)
  | coe x =>
    have hx : 0 ≤ x := by exact_mod_cast h0
    have hs : Ideal.sqrt (x : EReal) = (Real.sqrt x : EReal) := by rw [Ideal.sqrt_coe, if_neg (not_lt.mpr hx)]
    refine ⟨?_, Real.sqrt x, Real.sqrt_nonneg x, hs⟩
    rw [hs]
    show Scalar.select (BitVec.ofBool (decide ((x : EReal) = 0))) _ _ = _
    by_cases e : x = 0
    · subst e
      rw [decide_eq_true (by norm_num)]
      show (0 : EReal) = _
      simp
    · rw [decide_eq_false (by exact_mod_cast e), Ideal.rsqrt_coe, if_neg (not_lt.mpr hx), if_neg e]
      show (x : EReal) * _ = _
      rw [← EReal.coe_mul]
      congr 1
      have hp : Real.sqrt x ≠ 0 := by rw [Real.sqrt_ne_zero hx]; exact e
      field_simp
      exact (Real.sq_sqrt hx).symm

/-- Times the reciprocal of a positive number is over the number. -/
theorem reciprocal_eq (x : EReal) (y : ℝ) (hy : 0 < y) : x * Ideal.div 1 (y : EReal) = Ideal.div x (y : EReal) := by
  rw [Ideal.div_coe hy.ne', Ideal.div_coe hy.ne', one_mul]

/-- A square is at least zero, also at infinity. -/
theorem mul_self_nonneg (x : EReal) : 0 ≤ x * x := by
  induction x using EReal.rec with
  | bot => simp
  | top => simp
  | coe x => exact_mod_cast _root_.mul_self_nonneg x

open Cert.ReferenceIdeal.Read

/-- The reference's squared norm, as a sum over the row. -/
theorem reference_square (x : FVec Ideal S4096x512 .f32) (R : Fin 4096) :
    val_main_v0 (F := Ideal) x (ix2 R (0 : Fin 1)) = Ideal.sqrt (∑ k : Fin 512, x (ix2 R k) * x (ix2 R k)) := by
  rw [val_main_v0_apply, val_main_call0_v2_apply, val_main_call0_v1_apply, val_main_call0_cst_apply]
  show Ideal.sqrt (Ideal.ofBits .f32 0x00000000#32 + _) = _
  rw [Ideal.ofBits_zero_f32, zero_add]
  refine congrArg Ideal.sqrt (Finset.sum_congr rfl fun k _ => ?_)
  rw [val_main_call0_v0_apply]
  have e : idx_main_call0_v1 (idx_main_call0_v2 (ix2 R (0 : Fin 1))) k = ix2 R k := funext fun a => by
    match a with
    | ⟨0, _⟩ => rfl
    | ⟨1, _⟩ => rfl
  rw [e]
  rfl

/-- The reference's normalized entry. -/
theorem reference_apply (x : FVec Ideal S4096x512 .f32) (R : Fin 4096) (k : Fin 512) :
    val_main_v3 (F := Ideal) x (ix2 R k)
      = Ideal.div (x (ix2 R k)) (max (Ideal.ofBits .f32 0x2B8CBCCC#32) (Ideal.sqrt (∑ k : Fin 512, x (ix2 R k) * x (ix2 R k)))) := by
  rw [val_main_v3_apply, val_main_v2_apply, val_main_v1_apply, val_main_call1_v1_apply, val_main_call1_v0_apply, val_main_cst_apply]
  have e : idx_main_v2 (ix2 R k) = ix2 R (0 : Fin 1) := funext fun a => by
    match a with
    | ⟨0, _⟩ => rfl
    | ⟨1, _⟩ => rfl
  rw [e, reference_square]
  rfl

theorem spread512_apply {α : Type} (x : S512x1.Idx → α) (r : Fin 512) (j : Fin 512) :
    broadcastTo S512x512 x broadcasts_S512x1_S512x512 (ix2 r j) = x (ix2 r (0 : Fin 1)) := by
  refine broadcastTo_apply x _ _ _ fun a => ?_
  match a with
  | ⟨0, _⟩ => rfl
  | ⟨1, _⟩ => rfl

/-- The kernel's normalized row: each entry times the reciprocal of the clipped root of the sum of squares. -/
theorem kernel_apply (v : FVec Ideal S512x512 .f32) (r k : Fin 512) :
    k0_pay1 (F := Ideal) v (k0_pay2 v) (ix2 r k)
      = v (ix2 r k) * Ideal.div 1 (max (Scalar.select (Ideal.cmp .oeq (∑ k : Fin 512, v (ix2 r k) * v (ix2 r k)) 0) 0
          ((∑ k : Fin 512, v (ix2 r k) * v (ix2 r k)) * Ideal.rsqrt (∑ k : Fin 512, v (ix2 r k) * v (ix2 r k))))
          (Ideal.ofBits .f32 0x2B8CBCCC#32)) := by
  rw [← sumsq_apply v r]
  generalize k0_pay2 (F := Ideal) v = p
  unfold k0_pay1
  dsimp only
  rw [mulf_apply, spread512_apply]
  generalize hq : addf p (dynamicRotate 1 126#32 none p rotates_S512x128_d1) = q
  have hcol : extractStridedSlice S512x1 ![0, 0] (addf q (dynamicRotate 1 127#32 none q rotates_S512x128_d1))
      slices_S512x128_o0_0_S512x1 (ix2 r (0 : Fin 1)) = (lane p r 0 + lane p r 2) + (lane p r 1 + lane p r 3) := by
    have e1 : extractStridedSlice S512x1 ![0, 0] (addf q (dynamicRotate 1 127#32 none q rotates_S512x128_d1))
        slices_S512x128_o0_0_S512x1 (ix2 r (0 : Fin 1)) = lane (addf q (dynamicRotate 1 127#32 none q rotates_S512x128_d1)) r 0 := by
      refine extractStridedSlice_apply _ _ slices_S512x128_o0_0_S512x1 _ _ fun a => ?_
      match a with
      | ⟨0, _⟩ => show r.val = 0 + r.val; omega
      | ⟨1, _⟩ => rfl
    rw [e1, lane_add, lane_rotate 127#32 1 rfl (by decide), ← hq, lane_add, lane_add, lane_rotate 126#32 2 rfl (by decide),
      lane_rotate 126#32 2 rfl (by decide)]
  rw [← hcol]
  generalize extractStridedSlice S512x1 ![0, 0] (addf q (dynamicRotate 1 127#32 none q rotates_S512x128_d1))
      slices_S512x128_o0_0_S512x1 = n
  rw [← Ideal.ofBits_zero_f32, ← one_bits]
  rfl

/-- Where the norm is finite the kernel's normalized row is the reference's. -/
theorem normalized_apply (v : FVec Ideal S512x512 .f32) (x : FVec Ideal S4096x512 .f32) (r : Fin 512) (R : Fin 4096)
    (hv : ∀ k, v (ix2 r k) = x (ix2 R k)) (hn : val_main_v0 (F := Ideal) x (ix2 R (0 : Fin 1)) < ⊤) (k : Fin 512) :
    k0_pay1 (F := Ideal) v (k0_pay2 v) (ix2 r k) = val_main_v3 (F := Ideal) x (ix2 R k) := by
  rw [kernel_apply, reference_apply]
  rw [reference_square] at hn
  simp only [hv]
  obtain ⟨e, s, hs, es⟩ := root_eq _ (Finset.sum_nonneg fun k _ => mul_self_nonneg _) hn
  obtain ⟨c, hc, ec⟩ := eps_pos
  have hm : max (c : EReal) (s : EReal) = ((max c s : ℝ) : EReal) := (EReal.coe_strictMono.monotone.map_max).symm
  rw [e, es, ec, max_comm (s : EReal), hm]
  exact reciprocal_eq _ _ (lt_max_of_lt_left hc)

end Cert.KernelIdeal.Norm

end
-- ==== Proof.TopK.lean ====
module

public import proofs.«01_k».proof.Proof.Probs

@[expose] public section

noncomputable section

open Idealize.ShloMosaic Idealize.ShloMosaic.TcCoe Idealize.SL.Sem Idealize.ShloMosaic.ValueIdx

namespace Cert.ReferenceIdeal.TopK

open Cert.ReferenceIdeal Cert.ReferenceIdeal.Gen Cert.ReferenceIdeal.Read Cert.Select Cert.KernelIdeal.Row

/-- Row `R` of the whole table of probabilities. -/
abbrev fullRow (p : FVec Ideal S4096x4096 .f32) (R : Fin 4096) : Fin 4096 → EReal := fun j => p (ix2 R j)

theorem along_eq (R t j : Fin 4096) : Shape.Idx.along (s := S4096x4096) (ix2 R t) (1 : Fin 2) j = ix2 R j := funext fun a => by
  match a with
  | ⟨0, _⟩ => rfl
  | ⟨1, _⟩ => rfl

/-- The sorted pair at an index: the entry and the position that the descending order puts there. -/
theorem sorted_eq (p : FVec Ideal S4096x4096 .f32) (y : IVec S4096x4096 32) (R t : Fin 4096) :
    (Host.sort2 S4096x4096 1 (fun l r => FloatOps.cmpfTotal (F := Ideal) (φ := .f32) .gt l.1 r.1) p y).1 (ix2 R t) = fullRow p R (place (fullRow p R) t)
    ∧ (Host.sort2 S4096x4096 1 (fun l r => FloatOps.cmpfTotal (F := Ideal) (φ := .f32) .gt l.1 r.1) p y).2 (ix2 R t) = y (ix2 R (place (fullRow p R) t)) := by
  have hb : (fun k k' : Fin 4096 => FloatOps.cmpfTotal (F := Ideal) (φ := .f32) .gt
      (p (Shape.Idx.along (s := S4096x4096) (ix2 R t) (1 : Fin 2) k)) (p (Shape.Idx.along (s := S4096x4096) (ix2 R t) (1 : Fin 2) k')) == 1#1)
      = greater (fullRow p R) := funext fun k => funext fun k' => by
    rw [along_eq, along_eq]
    show (BitVec.ofBool (decide (p (ix2 R k') < p (ix2 R k))) == 1#1) = decide (p (ix2 R k') < p (ix2 R k))
    cases decide (p (ix2 R k') < p (ix2 R k)) <;> rfl
  unfold Host.sort2
  rw [dif_pos (show 1 < S4096x4096.rank by decide)]
  dsimp only
  constructor
  · refine (congrArg p (along_eq R t _)).trans ?_
    exact congrArg (fun b => p (ix2 R (sortedFrom b t))) hb
  · refine (congrArg y (along_eq R t _)).trans ?_
    exact congrArg (fun b => y (ix2 R (sortedFrom b t))) hb

variable (a : FVec Ideal S4096x4096 .f32) (x : FVec Ideal S4096x512 .f32)

/-- The reference's value is the entry at its place. -/
theorem values_apply (R : Fin 4096) (t : Fin 32) : val_main_values (F := Ideal) a x (ix2 R t)
    = fullRow (val_main_v14 (F := Ideal) a x) R (place (fullRow (val_main_v14 (F := Ideal) a x) R) (up t)) := by
  unfold val_main_values Host.topK
  generalize val_main_v14 (F := Ideal) a x = p
  dsimp only
  refine (extractStridedSlice_apply _ _ sliceFits_S4096x4096_S4096x32 _ (ix2 R (up t)) fun b => ?_).trans (sorted_eq p _ R (up t)).1
  match b with
  | ⟨0, _⟩ => show R.val = 0 + R.val; omega
  | ⟨1, _⟩ => show t.val = 0 + t.val; omega

/-- The reference's index is its place. -/
theorem indices_apply (R : Fin 4096) (t : Fin 32) : val_main_indices (F := Ideal) a x (ix2 R t)
    = BitVec.ofNat 32 (place (fullRow (val_main_v14 (F := Ideal) a x) R) (up t)).val := by
  unfold val_main_indices Host.topK
  generalize val_main_v14 (F := Ideal) a x = p
  dsimp only
  refine (extractStridedSlice_apply _ _ sliceFits_S4096x4096_S4096x32 _ (ix2 R (up t)) fun b => ?_).trans
    ((sorted_eq p _ R (up t)).2.trans ?_)
  · match b with
    | ⟨0, _⟩ => show R.val = 0 + R.val; omega
    | ⟨1, _⟩ => show t.val = 0 + t.val; omega
  · rw [dif_pos (show 1 < S4096x4096.rank by decide)]
    rfl

end Cert.ReferenceIdeal.TopK

end
-- ==== Proof.Arrays.lean ====
module

public import proofs.«01_k».proof.Proof.Rounds
public import proofs.«01_k».proof.Proof.Row
public import proofs.«01_k».proof.Proof.Probs
public import proofs.«01_k».proof.Proof.Norm
public import proofs.«01_k».proof.Proof.TopK

@[expose] public section

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Select Cert.KernelIdeal.Row Cert.KernelIdeal.Rounds
open Cert.ReferenceIdeal.Read Cert.ReferenceIdeal.TopK

/-! ## Where the blocks lie: point `t` works on rows `512 t` to `512 t + 511` -/

/-- The array's row that is row `r` of block `t`. -/
def row (t : Fin 8) (r : Fin 512) : Fin 4096 := ⟨t.val * 512 + r.val, by omega⟩

/-- The block index of each window at each point. -/
theorem index0_0 (t : Fin cfg0.N) : win0_0.index t 0 = t.val ∧ win0_0.index t 1 = 0 := by
  revert t; decide +kernel
theorem index0_1 (t : Fin cfg0.N) : win0_1.index t 0 = t.val ∧ win0_1.index t 1 = 0 := by
  revert t; decide +kernel
theorem index1_0 (t : Fin cfg1.N) : win1_0.index t 0 = t.val ∧ win1_0.index t 1 = 0 := by
  revert t; decide +kernel
theorem index1_1 (t : Fin cfg1.N) : win1_1.index t 0 = 0 ∧ win1_1.index t 1 = 0 := by
  revert t; decide +kernel
theorem index1_2 (t : Fin cfg1.N) : win1_2.index t 0 = t.val ∧ win1_2.index t 1 = 0 := by
  revert t; decide +kernel
theorem index1_3 (t : Fin cfg1.N) : win1_3.index t 0 = t.val ∧ win1_3.index t 1 = 0 := by
  revert t; decide +kernel
theorem index1_4 (t : Fin cfg1.N) : win1_4.index t 0 = t.val ∧ win1_4.index t 1 = 0 := by
  revert t; decide +kernel

section Reads

variable {F : FTy → Type} [FloatOps F]
variable (V : (c : Dev nD) → (b : Ref sig .tc) → Buf (Elt F) ((c : Thread nD τ).loc b))

/-- Reading a block of the records: row `r` of block `t` is row `512 t + r` of the array. The next lemmas say the same of the
    other windows; window 1 of the second pipeline is the whole array. -/
theorem blk0_0 (c : Dev nD) (t : Fin cfg0.N) (G : Vec F S4096x512 .f32) (r k : Fin 512) :
    ((cfg0.win 0).blk t).view.read (Elt F) G (ix2 r k) = G (ix2 (row t r) k) := by
  rw [View.read_apply]
  refine congrArg G (funext fun a => Fin.ext ?_)
  match a with
  | ⟨0, _⟩ => show win0_0.index t 0 * 512 + 1 * r.val = t.val * 512 + r.val; rw [(index0_0 t).1]; omega
  | ⟨1, _⟩ => show win0_0.index t 1 * 512 + 1 * k.val = k.val; rw [(index0_0 t).2]; omega

theorem blk0_1 (c : Dev nD) (t : Fin cfg0.N) (G : Vec F S4096x512 .f32) (r k : Fin 512) :
    ((cfg0.win 1).blk t).view.read (Elt F) G (ix2 r k) = G (ix2 (row t r) k) := by
  rw [View.read_apply]
  refine congrArg G (funext fun a => Fin.ext ?_)
  match a with
  | ⟨0, _⟩ => show win0_1.index t 0 * 512 + 1 * r.val = t.val * 512 + r.val; rw [(index0_1 t).1]; omega
  | ⟨1, _⟩ => show win0_1.index t 1 * 512 + 1 * k.val = k.val; rw [(index0_1 t).2]; omega

theorem blk1_0 (c : Dev nD) (t : Fin cfg1.N) (G : Vec F S4096x512 .f32) (r k : Fin 512) :
    ((cfg1.win 0).blk t).view.read (Elt F) G (ix2 r k) = G (ix2 (row t r) k) := by
  rw [View.read_apply]
  refine congrArg G (funext fun a => Fin.ext ?_)
  match a with
  | ⟨0, _⟩ => show win1_0.index t 0 * 512 + 1 * r.val = t.val * 512 + r.val; rw [(index1_0 t).1]; omega
  | ⟨1, _⟩ => show win1_0.index t 1 * 512 + 1 * k.val = k.val; rw [(index1_0 t).2]; omega

theorem blk1_1 (c : Dev nD) (t : Fin cfg1.N) (G : Vec F S4096x512 .f32) (j : Fin 4096) (k : Fin 512) :
    ((cfg1.win 1).blk t).view.read (Elt F) G (ix2 j k) = G (ix2 j k) := by
  rw [View.read_apply]
  refine congrArg G (funext fun a => Fin.ext ?_)
  match a with
  | ⟨0, _⟩ => show win1_1.index t 0 * 4096 + 1 * j.val = j.val; rw [(index1_1 t).1]; omega
  | ⟨1, _⟩ => show win1_1.index t 1 * 512 + 1 * k.val = k.val; rw [(index1_1 t).2]; omega

theorem blk1_2 (c : Dev nD) (t : Fin cfg1.N) (G : Vec F S4096x4096 .f32) (r : Fin 512) (j : Fin 4096) :
    ((cfg1.win 2).blk t).view.read (Elt F) G (ix2 r j) = G (ix2 (row t r) j) := by
  rw [View.read_apply]
  refine congrArg G (funext fun a => Fin.ext ?_)
  match a with
  | ⟨0, _⟩ => show win1_2.index t 0 * 512 + 1 * r.val = t.val * 512 + r.val; rw [(index1_2 t).1]; omega
  | ⟨1, _⟩ => show win1_2.index t 1 * 4096 + 1 * j.val = j.val; rw [(index1_2 t).2]; omega

theorem blk1_3 (c : Dev nD) (t : Fin cfg1.N) (G : Vec F S4096x32 .f32) (r : Fin 512) (j : Fin 32) :
    ((cfg1.win 3).blk t).view.read (Elt F) G (ix2 r j) = G (ix2 (row t r) j) := by
  rw [View.read_apply]
  refine congrArg G (funext fun a => Fin.ext ?_)
  match a with
  | ⟨0, _⟩ => show win1_3.index t 0 * 512 + 1 * r.val = t.val * 512 + r.val; rw [(index1_3 t).1]; omega
  | ⟨1, _⟩ => show win1_3.index t 1 * 32 + 1 * j.val = j.val; rw [(index1_3 t).2]; omega

theorem blk1_4 (c : Dev nD) (t : Fin cfg1.N) (G : Vec F S4096x32 .i32) (r : Fin 512) (j : Fin 32) :
    ((cfg1.win 4).blk t).view.read (Elt F) G (ix2 r j) = G (ix2 (row t r) j) := by
  rw [View.read_apply]
  refine congrArg G (funext fun a => Fin.ext ?_)
  match a with
  | ⟨0, _⟩ => show win1_4.index t 0 * 512 + 1 * r.val = t.val * 512 + r.val; rw [(index1_4 t).1]; omega
  | ⟨1, _⟩ => show win1_4.index t 1 * 32 + 1 * j.val = j.val; rw [(index1_4 t).2]; omega

end Reads

/-- Every row lies in the block of its quotient by 512. -/
theorem cover0_array (i : S4096x512.Idx) : ∃ t : Fin cfg0.N, (cfg0.win 1).flush t = true ∧ i ∈ ((cfg0.win 1).blk t).view.set := by
  have h0 := idx2_lt0 i
  have h1 := idx2_lt1 i
  have hN : cfg0.N = 8 := N_0
  let t : Fin cfg0.N := ⟨(i 0).val / 512, by omega⟩
  have e0 : win0_1.index t 0 = (i 0).val / 512 := (index0_1 t).1
  have e1 := (index0_1 t).2
  refine ⟨t, flush0_1 t, ?_⟩
  show i ∈ ((View.whole main_v0).slice (win0_1.rect t)).set
  rw [View.set_slice_whole, Rect.mem_set_unit]
  intro a
  match a with
  | ⟨0, _⟩ => show win0_1.index t 0 * 512 ≤ (i 0).val ∧ (i 0).val < win0_1.index t 0 * 512 + 512
              rw [e0]; omega
  | ⟨1, _⟩ => show win0_1.index t 1 * 512 ≤ (i 1).val ∧ (i 1).val < win0_1.index t 1 * 512 + 512
              rw [e1]; omega

/-- The same of the first result array. -/
theorem cover_values (i : S4096x32.Idx) : ∃ t : Fin cfg1.N, (cfg1.win 3).flush t = true ∧ i ∈ ((cfg1.win 3).blk t).view.set := by
  have h0 := idx2_lt0 i
  have h1 := idx2_lt1 i
  have hN : cfg1.N = 8 := N_1
  let t : Fin cfg1.N := ⟨(i 0).val / 512, by omega⟩
  have e0 : win1_3.index t 0 = (i 0).val / 512 := (index1_3 t).1
  have e1 := (index1_3 t).2
  refine ⟨t, flush1_3 t, ?_⟩
  show i ∈ ((View.whole main_v1_0).slice (win1_3.rect t)).set
  rw [View.set_slice_whole, Rect.mem_set_unit]
  intro a
  match a with
  | ⟨0, _⟩ => show win1_3.index t 0 * 512 ≤ (i 0).val ∧ (i 0).val < win1_3.index t 0 * 512 + 512
              rw [e0]; omega
  | ⟨1, _⟩ => show win1_3.index t 1 * 32 ≤ (i 1).val ∧ (i 1).val < win1_3.index t 1 * 32 + 32
              rw [e1]; omega

/-- The same of the second result array. -/
theorem cover_indices (i : S4096x32.Idx) : ∃ t : Fin cfg1.N, (cfg1.win 4).flush t = true ∧ i ∈ ((cfg1.win 4).blk t).view.set := by
  have h0 := idx2_lt0 i
  have h1 := idx2_lt1 i
  have hN : cfg1.N = 8 := N_1
  let t : Fin cfg1.N := ⟨(i 0).val / 512, by omega⟩
  have e0 : win1_4.index t 0 = (i 0).val / 512 := (index1_4 t).1
  have e1 := (index1_4 t).2
  refine ⟨t, flush1_4 t, ?_⟩
  show i ∈ ((View.whole main_v1_1).slice (win1_4.rect t)).set
  rw [View.set_slice_whole, Rect.mem_set_unit]
  intro a
  match a with
  | ⟨0, _⟩ => show win1_4.index t 0 * 512 ≤ (i 0).val ∧ (i 0).val < win1_4.index t 0 * 512 + 512
              rw [e0]; omega
  | ⟨1, _⟩ => show win1_4.index t 1 * 32 ≤ (i 1).val ∧ (i 1).val < win1_4.index t 1 * 32 + 32
              rw [e1]; omega

/-! ## The two arrays, at the ideal numbers -/

variable (m : (ℓ : Loc nD τ sig) → Buf (Elt Ideal) ℓ) (ρ : Dev nD → PrngReg)

/-- The adjacency matrix and the records as the launch finds them. -/
abbrev adj (c : Dev nD) : FVec Ideal S4096x4096 .f32 := m ((c : Thread nD τ).loc main_arg0)
abbrev records (c : Dev nD) : FVec Ideal S4096x512 .f32 := m ((c : Thread nD τ).loc main_arg1)

/-- Every row's norm is below infinity. -/
def Finite (x : FVec Ideal S4096x512 .f32) : Prop := ∀ R : Fin 4096, val_main_v0 (F := Ideal) x (ix2 R (0 : Fin 1)) < ⊤

/-- Each block the first pipeline writes back is the block of the normalized records. -/
theorem normalized_block (c : Dev nD) (hn : Finite (records m c)) (t : Fin cfg0.N) :
    (dat0 (V0 m ρ) c).flushed 1 t = ((cfg0.win 1).blk t).view.read (Elt Ideal) (val_main_v3 (F := Ideal) (records m c)) := by
  show (cfg0.win 1).cut (grid0.coords t) ((dat0 (V0 m ρ) c).after 1 t) = _
  rw [after0_1]
  unfold out0_1
  rw [View.canon_unit_zero hz, View.ld_unit_zero hz]
  refine funext fun (y : S512x512.Idx) => ?_
  rw [eq_ix2 y]
  refine Eq.trans ?_ (blk0_1 c t _ _ _).symm
  exact Norm.normalized_apply _ (records m c) _ (row t _) (fun k => by unfold iblk0; exact blk0_0 (F := Ideal) c t (records m c) _ k) (hn _) _

/-- The first pipeline leaves the reference's normalized records. -/
theorem normalized_array (c : Dev nD) (hn : Finite (records m c)) : V1 m ρ c main_v0 = val_main_v3 (F := Ideal) (records m c) :=
  (W1_arr m ρ c 1).trans ((dat0 (V0 m ρ) c).arrAt_eq_of_cover 1 _ (fun t _ => normalized_block m ρ c hn t) cover0_array)

/-- The first pipeline leaves the adjacency matrix as it was. -/
theorem adjacency_array (c : Dev nD) : V1 m ρ c main_arg0 = adj m c := W1_args m ρ c main_arg0 (by decide)

/-- The block's table of probabilities is the reference's, row by row. -/
theorem candidates_row (c : Dev nD) (hn : Finite (records m c)) (t : Fin cfg1.N) (r : Fin 512) :
    rowOf (k1_pay1 (iblk1 (V1 m ρ) c 0 t) (iblk1 (V1 m ρ) c 1 t) (iblk1 (V1 m ρ) c 2 t)) r
      = fullRow (val_main_v14 (F := Ideal) (adj m c) (records m c)) (row t r) := funext fun j => by
  refine (Probs.candidates_apply _ _ _ r j).trans (Eq.trans ?_ (Cert.ReferenceIdeal.Probs.probs_apply (adj m c) (records m c) (row t r) j).symm)
  have e0 : ∀ k : Fin 512, iblk1 (V1 m ρ) c 0 t (ix2 r k) = val_main_v3 (F := Ideal) (records m c) (ix2 (row t r) k) := fun k =>
    (blk1_0 c t (V1 m ρ c main_v0) r k).trans (congrFun (normalized_array m ρ c hn) _)
  have e1 : ∀ (j : Fin 4096) (k : Fin 512), iblk1 (V1 m ρ) c 1 t (ix2 j k) = val_main_v3 (F := Ideal) (records m c) (ix2 j k) := fun j k =>
    (blk1_1 c t (V1 m ρ c main_v0) j k).trans (congrFun (normalized_array m ρ c hn) _)
  have e2 : ∀ j : Fin 4096, iblk1 (V1 m ρ) c 2 t (ix2 r j) = adj m c (ix2 (row t r) j) := fun j =>
    (blk1_2 c t (V1 m ρ c main_arg0) r j).trans (congrFun (adjacency_array m ρ c) _)
  refine congrArg₂ (fun f g => Probs.prob f g j) (funext fun j => Finset.sum_congr rfl fun k _ => ?_) (funext fun j => e2 j)
  rw [e0, e1]

/-- Every one of the reference's 32 values is a candidate, that is above minus infinity. -/
def Enough (a : FVec Ideal S4096x4096 .f32) (x : FVec Ideal S4096x512 .f32) : Prop :=
  ∀ (R : Fin 4096) (j : Fin 32), ⊥ < val_main_values (F := Ideal) a x (ix2 R j)

/-- After 32 rounds a row of the block holds the reference's values and indices of that row. -/
theorem carried_row (c : Dev nD) (hn : Finite (records m c)) (he : Enough (adj m c) (records m c)) (t : Fin cfg1.N) (r : Fin 512) (j : Fin 32) :
    (carried (k1_pay1 (iblk1 (V1 m ρ) c 0 t) (iblk1 (V1 m ρ) c 1 t) (iblk1 (V1 m ρ) c 2 t)) 32).1 (ix2 r j)
        = val_main_values (F := Ideal) (adj m c) (records m c) (ix2 (row t r) j)
    ∧ (carried (k1_pay1 (iblk1 (V1 m ρ) c 0 t) (iblk1 (V1 m ρ) c 1 t) (iblk1 (V1 m ρ) c 2 t)) 32).2 (ix2 r j)
        = val_main_indices (F := Ideal) (adj m c) (records m c) (ix2 (row t r) j) := by
  have hr := candidates_row m ρ c hn t r
  generalize k1_pay1 (iblk1 (V1 m ρ) c 0 t) (iblk1 (V1 m ρ) c 1 t) (iblk1 (V1 m ρ) c 2 t) = v at hr ⊢
  have h := (rounds_apply v r (fun j => by
    rw [hr, ← values_apply]
    exact (he (row t r) j).ne') 32 le_rfl).2 j j.isLt
  rw [hr] at h
  exact ⟨h.1.trans (values_apply _ _ _ _).symm, h.2.trans (indices_apply _ _ _ _).symm⟩

/-- The first result array ends at the reference's values. -/
theorem values_array (c : Dev nD) (hn : Finite (records m c)) (he : Enough (adj m c) (records m c)) :
    (dat1 (V1 m ρ) c).arrAt 3 cfg1.N = val_main_values (F := Ideal) (adj m c) (records m c) :=
  (dat1 (V1 m ρ) c).arrAt_eq_of_cover 3 _ (fun t _ => by
    show (cfg1.win 3).cut (grid1.coords t) ((dat1 (V1 m ρ) c).after 3 t) = _
    rw [after1_3]
    unfold outsAt1
    dsimp only
    rw [out_values]
    refine funext fun (y : S512x32.Idx) => ?_
    rw [eq_ix2 y]
    exact (carried_row m ρ c hn he t _ _).1.trans (blk1_3 c t _ _ _).symm) cover_values

/-- The second result array ends at the reference's indices. -/
theorem indices_array (c : Dev nD) (hn : Finite (records m c)) (he : Enough (adj m c) (records m c)) :
    (dat1 (V1 m ρ) c).arrAt 4 cfg1.N = val_main_indices (F := Ideal) (adj m c) (records m c) :=
  (dat1 (V1 m ρ) c).arrAt_eq_of_cover 4 _ (fun t _ => by
    show (cfg1.win 4).cut (grid1.coords t) ((dat1 (V1 m ρ) c).after 4 t) = _
    rw [after1_4]
    unfold outsAt1
    dsimp only
    rw [out_indices]
    refine funext fun (y : S512x32.Idx) => ?_
    rw [eq_ix2 y]
    exact (carried_row m ρ c hn he t _ _).2.trans (blk1_4 c t _ _ _).symm) cover_indices

end Cert.KernelIdeal.Arrays

end
-- ==== Proof.Premise.lean ====
module

public import proofs.«01_k».proof.Pre_norms_finite_and_enough_neighbors
public import proofs.«01_k».proof.Proof.Gen.Pre_norms_finite_and_enough_neighbors
public import proofs.«01_k».proof.Proof.Arrays

@[expose] public section

noncomputable section

open Idealize.ShloMosaic Idealize.ShloMosaic.TcCoe Idealize.SL.Sem Idealize.ShloMosaic.ValueIdx

namespace Cert.KernelIdeal.Premise

open Cert.KernelIdeal Cert.KernelIdeal.Arrays Cert.ReferenceIdeal.Read

/-- The precondition's function in the reference's own terms. -/
theorem fn_eq (a : FVec Ideal S4096x4096 .f32) (x : FVec Ideal S4096x512 .f32) (l : IVec S4096 32) :
    (Cert.Pre_norms_finite_and_enough_neighbors.fn (F := Ideal) a x l)
      = andi
          (broadcastInDim S4096x32 ![0, 1] Cert.Pre_norms_finite_and_enough_neighbors.Gen.facts.bcast_S4096x1_S4096x32_0_1
            (cmpf .olt (val_main_v0 (F := Ideal) x) (broadcastInDim _ ![] Cert.Pre_norms_finite_and_enough_neighbors.Gen.facts.bcast_S_S4096x1
              (constant (F := Ideal) Cert.Pre_norms_finite_and_enough_neighbors.S_ .f32 0x7F800000#32))))
          (cmpf .ogt (val_main_values (F := Ideal) a x) (broadcastInDim _ ![] Cert.Pre_norms_finite_and_enough_neighbors.Gen.facts.bcast_S_S4096x32
              (constant (F := Ideal) Cert.Pre_norms_finite_and_enough_neighbors.S_ .f32 0xFF800000#32))) := rfl

theorem ofBits_inf : Ideal.ofBits .f32 0x7F800000#32 = ⊤ := by simp [Ideal.ofBits, Ideal.ieee]

theorem and_one : ∀ p q : BitVec 1, p &&& q = 1#1 → p = 1#1 ∧ q = 1#1 := by decide

theorem of_ofBool {p : Prop} [Decidable p] (h : BitVec.ofBool (decide p) = 1#1) : p := by
  by_contra hp
  rw [decide_eq_false hp] at h
  exact absurd h (by decide)

/-- What the precondition says of the records and the adjacency matrix. -/
theorem reading (a : FVec Ideal S4096x4096 .f32) (x : FVec Ideal S4096x512 .f32) (l : IVec S4096 32)
    (h : Cert.Pre_norms_finite_and_enough_neighbors.fn (F := Ideal) a x l = fun _ => 1#1) :
    Finite x ∧ Enough a x := by
  have hp : ∀ (R : Fin 4096) (j : Fin 32), val_main_v0 (F := Ideal) x (ix2 R (0 : Fin 1)) < ⊤ ∧ ⊥ < val_main_values (F := Ideal) a x (ix2 R j) := fun R j => by
    have e := congrFun ((fn_eq a x l).symm.trans h) (ix2 R j)
    obtain ⟨e0, e1⟩ := and_one _ _ e
    generalize val_main_v0 (F := Ideal) x = n at e0 ⊢
    generalize val_main_values (F := Ideal) a x = w at e1 ⊢
    refine ⟨?_, ?_⟩
    · have hc : BitVec.ofBool (decide (n (ix2 R (0 : Fin 1)) < Ideal.ofBits .f32 0x7F800000#32)) = 1#1 := by
        refine Eq.trans ?_ e0
        symm
        refine broadcastInDim_apply _ _ _ (ix2 R j) (ix2 R (0 : Fin 1)) fun b => ?_
        match b with
        | ⟨0, _⟩ => rfl
        | ⟨1, _⟩ => rfl
      have := of_ofBool hc
      rwa [ofBits_inf] at this
    · have hc : BitVec.ofBool (decide (Ideal.ofBits .f32 0xFF800000#32 < w (ix2 R j))) = 1#1 := e1
      have := of_ofBool hc
      rwa [Row.ofBits_neg_inf] at this
  exact ⟨fun R => (hp R 0).1, fun R j => (hp R j).2⟩

end Cert.KernelIdeal.Premise

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_norms_finite_and_enough_neighbors
public import proofs.«01_k».proof.Proof.Launched
public import proofs.«01_k».proof.Proof.Premise
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference has no semaphore, so its run with the argument arrays unchanged is its frame. -/
theorem reference_frame : Cert.quiescent_ReferenceIdeal := fun m g _ =>
  (θ_run Cert.ReferenceIdeal.defs _ _).mono
    (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m g)

/-- From equal arguments that satisfy the precondition, the kernel's two arrays and the reference's end the same. -/
theorem equal_results : Cert.algebraic_KernelIdeal_ReferenceIdeal_pre_norms_finite_and_enough_neighbors := fun m g m' g' hpre hargs => by
  have hp := fun c => Cert.KernelIdeal.Premise.reading _ _ _ (hpre c)
  refine ⟨fun c => Cert.ReferenceIdeal.Read.val_main_values (F := Ideal) (Cert.KernelIdeal.Arrays.adj m c) (Cert.KernelIdeal.Arrays.records m c),
    fun c => Cert.ReferenceIdeal.Read.val_main_indices (F := Ideal) (Cert.KernelIdeal.Arrays.adj m c) (Cert.KernelIdeal.Arrays.records m c), ?_, ?_⟩
  · exact (θ_run Cert.KernelIdeal.defs _ _).mono
      (fun r h c => ⟨(h c).1.trans (Cert.KernelIdeal.Arrays.values_array m g c (hp c).1 (hp c).2),
        (h c).2.1.trans (Cert.KernelIdeal.Arrays.indices_array m g c (hp c).1 (hp c).2), (h c).2.2⟩)
      (Cert.KernelIdeal.Launched.run (F := Ideal) m g)
  · exact (θ_run Cert.ReferenceIdeal.defs _ _).mono
      (fun r h c => ⟨(h c).1.trans ((Cert.ReferenceIdeal.Read.val_main_values_eq _ _).trans
            (congrArg₂ (Cert.ReferenceIdeal.Read.val_main_values (F := Ideal)) (hargs c).1 (hargs c).2.1)),
        (h c).2.1.trans ((Cert.ReferenceIdeal.Read.val_main_indices_eq _ _).trans
            (congrArg₂ (Cert.ReferenceIdeal.Read.val_main_indices (F := Ideal)) (hargs c).1 (hargs c).2.1)), (h c).2.2⟩)
      (Cert.ReferenceIdeal.Value.run (F := Ideal) m' g')

theorem claim : Cert.Claim := ⟨Cert.Kernel.Gen.facts, Cert.KernelIdeal.Gen.facts, Cert.ReferenceIdeal.Gen.facts,
  Cert.Pre_norms_finite_and_enough_neighbors.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  equal_results⟩

end Cert.Proof

end
